-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_finite [hPre_x_is_finite : Cert.Pre_x_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_finite [hPre_x_is_finite : Cert.Pre_x_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_is_finite [hKernelIdeal : Cert.KernelIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_is_finite [hReferenceIdeal : Cert.ReferenceIdeal.Facts] [hPre_x_is_finite : Cert.Pre_x_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_x_is_finite [hKernelIdeal : Cert.KernelIdeal.Facts] [hReferenceIdeal : Cert.ReferenceIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_x_is_finite : Cert.Pre_x_is_finite.Facts),
    quiescent_Kernel (hKernel := hKernel)
    ∧ quiescent_KernelIdeal (hKernelIdeal := hKernelIdeal)
    ∧ quiescent_KernelIdeal_pre_x_is_finite (hKernelIdeal := hKernelIdeal) (hPre_x_is_finite := hPre_x_is_finite)
    ∧ quiescent_ReferenceIdeal (hReferenceIdeal := hReferenceIdeal)
    ∧ quiescent_ReferenceIdeal_pre_x_is_finite (hReferenceIdeal := hReferenceIdeal) (hPre_x_is_finite := hPre_x_is_finite)
    ∧ preserves_Kernel_KernelIdeal
    ∧ algebraic_KernelIdeal_ReferenceIdeal_pre_x_is_finite (hKernelIdeal := hKernelIdeal) (hReferenceIdeal := hReferenceIdeal) (hPre_x_is_finite := hPre_x_is_finite)
-- ==== Pre_x_is_finite.lean ====
abbrev S2x2048x8192 : Shape := ⟨3, ![2, 2048, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S_ : Shape := ⟨0, ![]⟩

class Facts : Prop where
  bcast_S_S2x2048x8192 : S_.BroadcastsInDim S2x2048x8192 (![] : Fin 0 → Fin S2x2048x8192.rank)
  reducesTo_S2x2048x8192_S_d0_1_2 : S2x2048x8192.ReducesTo [0, 1, 2] S_
  h_S_ : 0 < S_.numel

variable [Facts]

def fn {F : FTy → Type} [FloatOps F] (main_arg0 : FVec F S2x2048x8192 .bf16) (main_arg1 : FVec F S2112x8192 .fp8e4m3) (main_arg2 : FVec F S17x64 .f32) (main_arg3 : FVec F S1536 .bf16) (main_arg4 : FVec F S512 .bf16) : IVec S_ 1 :=
  let main_v0 : FVec F S2x2048x8192 .bf16 := Host.absf main_arg0
  let main_cst : FVec F S_ .bf16 := constant S_ .bf16 0x7F7F#16
  let main_v1 : FVec F S2x2048x8192 .bf16 := broadcastInDim S2x2048x8192 ![] bcast_S_S2x2048x8192 main_cst
  let main_v2 : IVec S2x2048x8192 1 := cmpf .ole main_v0 main_v1
  let main_c : IVec S_ 1 := constantI S_ 1 1#1
  let main_v3 : IVec S_ 1 := (fun x v => Host.reduce IntOp.andi x v reducesTo_S2x2048x8192_S_d0_1_2 h_S_) main_v2 main_c
  main_v3
-- ==== Kernel.lean ====
abbrev S2x2048x8192 : Shape := ⟨3, ![2, 2048, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S4096x8192 : Shape := ⟨2, ![4096, 8192]⟩
abbrev S1x1536 : Shape := ⟨2, ![1, 1536]⟩
abbrev S1x512 : Shape := ⟨2, ![1, 512]⟩
abbrev S4096x1536 : Shape := ⟨2, ![4096, 1536]⟩
abbrev S4096x512 : Shape := ⟨2, ![4096, 512]⟩
abbrev S4096x64 : Shape := ⟨2, ![4096, 64]⟩
abbrev S256x8192 : Shape := ⟨2, ![256, 8192]⟩
abbrev S256x1536 : Shape := ⟨2, ![256, 1536]⟩
abbrev S256x512 : Shape := ⟨2, ![256, 512]⟩
abbrev S256x64 : Shape := ⟨2, ![256, 64]⟩
abbrev S2x128x8192 : Shape := ⟨3, ![2, 128, 8192]⟩
abbrev S2 : Shape := ⟨1, ![2]⟩
abbrev S1 : Shape := ⟨1, ![1]⟩
abbrev S_ : Shape := ⟨0, ![]⟩
abbrev S1x128x8192 : Shape := ⟨3, ![1, 128, 8192]⟩
abbrev S128x8192 : Shape := ⟨2, ![128, 8192]⟩
abbrev S64x8192 : Shape := ⟨2, ![64, 8192]⟩
abbrev S17x8192 : Shape := ⟨2, ![17, 8192]⟩
abbrev S1x8192 : Shape := ⟨2, ![1, 8192]⟩
abbrev S1x64x8192 : Shape := ⟨3, ![1, 64, 8192]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x2112 : Shape := ⟨2, ![256, 2112]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x8192, .bf16⟩
  | .hbm, ⟨1, _⟩ => ⟨S2112x8192, .fp8e4m3⟩
  | .hbm, ⟨2, _⟩ => ⟨S17x64, .f32⟩
  | .hbm, ⟨3, _⟩ => ⟨S1536, .bf16⟩
  | .hbm, ⟨4, _⟩ => ⟨S512, .bf16⟩
  | .hbm, ⟨5, _⟩ => ⟨S4096x8192, .bf16⟩
  | .hbm, ⟨6, _⟩ => ⟨S1x1536, .bf16⟩
  | .hbm, ⟨7, _⟩ => ⟨S1x512, .bf16⟩
  | .hbm, ⟨8, _⟩ => ⟨S4096x1536, .bf16⟩
  | .hbm, ⟨9, _⟩ => ⟨S4096x512, .bf16⟩
  | .hbm, ⟨10, _⟩ => ⟨S4096x64, .bf16⟩
  | .hbm, ⟨11, _⟩ => ⟨S4096x8192, .fp8e4m3⟩
  | .hbm, ⟨12, _⟩ => ⟨S4096x64, .f32⟩
  | .local _ .vmem, ⟨0, _⟩ => ⟨S256x8192, .bf16⟩
  | .local _ .vmem, ⟨1, _⟩ => ⟨S256x8192, .bf16⟩
  | .local _ .vmem, ⟨2, _⟩ => ⟨S17x64, .f32⟩
  | .local _ .vmem, ⟨3, _⟩ => ⟨S1x1536, .bf16⟩
  | .local _ .vmem, ⟨4, _⟩ => ⟨S1x512, .bf16⟩
  | .local _ .vmem, ⟨5, _⟩ => ⟨S256x1536, .bf16⟩
  | .local _ .vmem, ⟨6, _⟩ => ⟨S256x1536, .bf16⟩
  | .local _ .vmem, ⟨7, _⟩ => ⟨S256x512, .bf16⟩
  | .local _ .vmem, ⟨8, _⟩ => ⟨S256x512, .bf16⟩
  | .local _ .vmem, ⟨9, _⟩ => ⟨S256x64, .bf16⟩
  | .local _ .vmem, ⟨10, _⟩ => ⟨S256x64, .bf16⟩
  | .local _ .vmem, ⟨11, _⟩ => ⟨S256x8192, .fp8e4m3⟩
  | .local _ .vmem, ⟨12, _⟩ => ⟨S256x8192, .fp8e4m3⟩
  | .local _ .vmem, ⟨13, _⟩ => ⟨S256x64, .f32⟩
  | .local _ .vmem, ⟨14, _⟩ => ⟨S256x64, .f32⟩
  | .local _ .vmem, ⟨15, _⟩ => ⟨S2112x8192, .bf16⟩
  | .local _ .vmem, ⟨16, _⟩ => ⟨S256x8192, .bf16⟩
  | .local _ .vmem, ⟨17, _⟩ => ⟨S2x128x8192, .fp8e4m3⟩
  | _, _ => ⟨S2x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x2048x8192 : Shape := ⟨3, ![2, 2048, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S4096x1536 : Shape := ⟨2, ![4096, 1536]⟩
abbrev S4096x512 : Shape := ⟨2, ![4096, 512]⟩
abbrev S4096x64 : Shape := ⟨2, ![4096, 64]⟩
abbrev S4096x8192 : Shape := ⟨2, ![4096, 8192]⟩
abbrev S4096x64x128 : Shape := ⟨3, ![4096, 64, 128]⟩
abbrev S1x1x254 : Shape := ⟨3, ![1, 1, 254]⟩
abbrev S4096x64x1 : Shape := ⟨3, ![4096, 64, 1]⟩
abbrev S4096x64x254 : Shape := ⟨3, ![4096, 64, 254]⟩
abbrev S17x1x64 : Shape := ⟨3, ![17, 1, 64]⟩
abbrev S17x128x64 : Shape := ⟨3, ![17, 128, 64]⟩
abbrev S2176x64 : Shape := ⟨2, ![2176, 64]⟩
abbrev S2112x64 : Shape := ⟨2, ![2112, 64]⟩
abbrev S2112x64x1 : Shape := ⟨3, ![2112, 64, 1]⟩
abbrev S2112x64x128 : Shape := ⟨3, ![2112, 64, 128]⟩
abbrev S1536x8192 : Shape := ⟨2, ![1536, 8192]⟩
abbrev S576x8192 : Shape := ⟨2, ![576, 8192]⟩
abbrev S4096x576 : Shape := ⟨2, ![4096, 576]⟩
abbrev S4096 : Shape := ⟨1, ![4096]⟩
abbrev S4096x1 : Shape := ⟨2, ![4096, 1]⟩
abbrev S1x1536 : Shape := ⟨2, ![1, 1536]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x8192, .bf16⟩
  | .hbm, ⟨1, _⟩ => ⟨S2112x8192, .fp8e4m3⟩
  | .hbm, ⟨2, _⟩ => ⟨S17x64, .f32⟩
  | .hbm, ⟨3, _⟩ => ⟨S1536, .bf16⟩
  | .hbm, ⟨4, _⟩ => ⟨S512, .bf16⟩
  | .hbm, ⟨5, _⟩ => ⟨S4096x1536, .bf16⟩
  | .hbm, ⟨6, _⟩ => ⟨S4096x512, .bf16⟩
  | .hbm, ⟨7, _⟩ => ⟨S4096x64, .bf16⟩
  | .hbm, ⟨8, _⟩ => ⟨S4096x8192, .fp8e4m3⟩
  | .hbm, ⟨9, _⟩ => ⟨S4096x64, .f32⟩
  | .local _ .vmem, ⟨0, _⟩ => ⟨S2x2048x8192, .bf16⟩
  | .local _ .vmem, ⟨1, _⟩ => ⟨S2112x8192, .fp8e4m3⟩
  | .local _ .vmem, ⟨2, _⟩ => ⟨S17x64, .f32⟩
  | .local _ .vmem, ⟨3, _⟩ => ⟨S1536, .bf16⟩
  | .local _ .vmem, ⟨4, _⟩ => ⟨S512, .bf16⟩
  | .local _ .vmem, ⟨5, _⟩ => ⟨S4096x1536, .bf16⟩
  | .local _ .vmem, ⟨6, _⟩ => ⟨S4096x512, .bf16⟩
  | .local _ .vmem, ⟨7, _⟩ => ⟨S4096x64, .bf16⟩
  | .local _ .vmem, ⟨8, _⟩ => ⟨S4096x8192, .fp8e4m3⟩
  | .local _ .vmem, ⟨9, _⟩ => ⟨S4096x64, .f32⟩
  | _, _ => ⟨S2x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kit.lean ====
/- The frame kit of the idealized kernel, stated at the resource algebra that lets the body move data itself: @main up to its region, the windows' blocks, the branch condition, the scratch operands and the invariant of a body with transfers of its own. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 4, through which its contents are stated (`View.read_writes_of_cover`: the
    choice does not matter). -/
abbrev VO0_4 : View sig .tc .vmem S256x1536 .bf16 := (Memref.whole cc0_stg4_0 : Memref sig .tc .vmem S256x1536 .bf16).view
/-- One staging buffer of output window 5, through which its contents are stated (`View.read_writes_of_cover`: the
    choice does not matter). -/
abbrev VO0_5 : View sig .tc .vmem S256x512 .bf16 := (Memref.whole cc0_stg5_0 : Memref sig .tc .vmem S256x512 .bf16).view
/-- One staging buffer of output window 6, through which its contents are stated (`View.read_writes_of_cover`: the
    choice does not matter). -/
abbrev VO0_6 : View sig .tc .vmem S256x64 .bf16 := (Memref.whole cc0_stg6_0 : Memref sig .tc .vmem S256x64 .bf16).view
/-- One staging buffer of output window 7, through which its contents are stated (`View.read_writes_of_cover`: the
    choice does not matter). -/
abbrev VO0_7 : View sig .tc .vmem S256x8192 .fp8e4m3 := (Memref.whole cc0_stg7_0 : Memref sig .tc .vmem S256x8192 .fp8e4m3).view
/-- One staging buffer of output window 8, through which its contents are stated (`View.read_writes_of_cover`: the
    choice does not matter). -/
abbrev VO0_8 : View sig .tc .vmem S256x64 .f32 := (Memref.whole cc0_stg8_0 : Memref sig .tc .vmem S256x64 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S17x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8192 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2112x8192 .bf16 := Memref.whole cc0_scratch0
abbrev scM0_1 : Memref sig .tc .vmem S256x8192 .bf16 := Memref.whole cc0_scratch1
abbrev scM0_2 : Memref sig .tc .vmem S2x128x8192 .fp8e4m3 := Memref.whole cc0_scratch2
/-- The scratch `arg11` the kernel carries between points, as a view: what it holds is stated through it. -/
abbrev VS0_0 : View sig .tc .vmem S2112x8192 .bf16 := scM0_0.view
/-- The operands left in HBM that the body copies into scratch itself, whole. -/
abbrev hbM0_0 : Memref sig .tc .hbm S2112x8192 .fp8e4m3 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 15, SemLoc.dma 16] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg1))) := by
  rw [Pipeline.ΦD_eq, scopedRest0_eq, ownSems00_eq, hbmPts0_eq]; simp only [scM0_0, scM0_1, scM0_2, owns_whole]; try rfl

end Cert.KernelIdeal.Hand

end
-- ==== Proof.Closed.lean ====
/- What one grid point of the kernel computes, as functions of its blocks, and what its loads and stores of one group read and write. -/
module

public import proofs.«01_k».proof.Proof.Kit
public import Idealize.ShloMosaic.Lib.WholeRead
public import Idealize.ShloMosaic.Lib.Pointwise
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What one grid point computes, as functions of its inputs' blocks -/

/-- Columns `128 g` to `128 g + 127` of a tile of activations: group `g`. -/
def xcols (x : Vec F S256x8192 .bf16) (g : ℕ) : Vec F S256x128 .bf16 := fun y =>
  x (ix2 (⟨(y 0).val, (y 0).isLt⟩ : Fin 256) (⟨(128 * g + (y 1).val) % 8192, Nat.mod_lt _ (by decide)⟩ : Fin 8192))

/-- A group's scale, one per row. -/
def gScale (xg : Vec F S256x128 .bf16) : FVec F S256x1 .f32 := k0_pay28 xg
/-- A group's codes. -/
def gCodes (xg : Vec F S256x128 .bf16) : FVec F S256x128 .fp8e4m3 := k0_pay30 (k0_pay26 xg) (k0_pay29 xg)
/-- A group's codes times its scale. -/
def gDeq (xg : Vec F S256x128 .bf16) : FVec F S256x128 .bf16 := k0_pay31 (k0_pay26 xg) (k0_pay28 xg) (k0_pay29 xg)

/-- The lane numbers of a tile of scales. -/
def lanes : IVec S256x64 32 := iota .tc S256x64 32 [1] iota_S256x64_d1_w32

/-- The tile of scales after the first `n` groups: group `g`'s scale in lane `g`, over zeros. -/
def scaleChain (ld : ℕ → Vec F S256x128 .bf16) : ℕ → FVec F S256x64 .f32
  | 0 => k0_pay25
  | n + 1 => select (cmpi .eq lanes (broadcast S256x64 (BitVec.ofNat 32 n)))
      (broadcastTo S256x64 (shapeCast S256x1 (gScale (ld n)) shapeCasts_S256x1_S256x1) broadcasts_S256x1_S256x64)
      (scaleChain ld n)

/-- The tile of scales. -/
def scalesB (x : Vec F S256x8192 .bf16) : Vec F S256x64 .f32 := scaleChain (xcols x) 64

/-- The group of a column. -/
def grp (y : S256x8192.Idx) : ℕ := (y 1).val / 128
/-- An element's place within its group. -/
def inGrp (y : S256x8192.Idx) : S256x128.Idx :=
  ix2 (⟨(y 0).val, (y 0).isLt⟩ : Fin 256) (⟨(y 1).val % 128, Nat.mod_lt _ (by decide)⟩ : Fin 128)

/-- The tile of codes. -/
def codesB (x : Vec F S256x8192 .bf16) : Vec F S256x8192 .fp8e4m3 := fun y => gCodes (xcols x (grp y)) (inGrp y)
/-- The tile of dequantised activations. -/
def deqB (x : Vec F S256x8192 .bf16) : Vec F S256x8192 .bf16 := fun y => gDeq (xcols x (grp y)) (inGrp y)

/-- Rows `128 b` to `128 b + 127` of the weights, as one slot of the staging buffer. -/
def wblk (w : Vec F S2112x8192 .fp8e4m3) (b : ℕ) : Vec F S1x128x8192 .fp8e4m3 := fun y =>
  w (ix2 (⟨(128 * b + (y 1).val) % 2112, Nat.mod_lt _ (by decide)⟩ : Fin 2112) (⟨(y 2).val, (y 2).isLt⟩ : Fin 8192))
/-- The last 64 rows of the weights, as one slot of the staging buffer. -/
def wtail (w : Vec F S2112x8192 .fp8e4m3) : Vec F S1x64x8192 .fp8e4m3 := fun y =>
  w (ix2 (⟨(2048 + (y 1).val) % 2112, Nat.mod_lt _ (by decide)⟩ : Fin 2112) (⟨(y 2).val, (y 2).isLt⟩ : Fin 8192))

/-- The dequantised weights: each code times its block's scale. -/
def wdeqB (w : Vec F S2112x8192 .fp8e4m3) (ws : Vec F S17x64 .f32) : Vec F S2112x8192 .bf16 := fun y =>
  FloatOps.mulf (FloatOps.extf .bf16 bitsLt_fp8e4m3_bf16 (w y))
    (FloatOps.truncf .bf16 bitsLt_bf16_f32 (k0_pay1 ws (ix2 (⟨(y 0).val / 128, by have : (y 0).val < 2112 := (y 0).isLt; omega⟩ : Fin 17) (⟨(y 1).val, (y 1).isLt⟩ : Fin 8192))))

/-- The three projected results of a tile. -/
def qB (x : Vec F S256x8192 .bf16) (wd : Vec F S2112x8192 .bf16) (gq : Vec F S1x1536 .bf16) : Vec F S256x1536 .bf16 := k0_pay513 (deqB x) wd gq
@[inherit_doc qB] def kvB (x : Vec F S256x8192 .bf16) (wd : Vec F S2112x8192 .bf16) (gk : Vec F S1x512 .bf16) : Vec F S256x512 .bf16 := k0_pay514 (deqB x) wd gk
@[inherit_doc qB] def peB (x : Vec F S256x8192 .bf16) (wd : Vec F S2112x8192 .bf16) : Vec F S256x64 .bf16 := k0_pay515 (deqB x) wd

/-! ## Loads and stores of one group -/

theorem load_cols {arg1 : Memref sig .tc .vmem S256x8192 .bf16} (harg1 : arg1.IsWhole) (x0 : Vec F S256x8192 .bf16) (g : ℕ) (hg : g < 64)
    (inb : ∀ a, (![0, 128 * g] : Fin 2 → ℕ) a + S256x128.size a ≤ S256x8192.size a) :
    View.readAt (Elt F) arg1.view (Rect.unit (s := S256x8192) ![0, 128 * g] S256x128.size inb).toLoadRect (harg1.unread x0) = xcols x0 g := by
  funext y
  rw [harg1.readAt_unread]
  unfold xcols
  refine congrArg x0 ?_
  funext a
  have h1 : (y 1).val < 128 := (y 1).isLt
  match a with
  | ⟨0, _⟩ => exact Fin.ext (show 0 + 1 * (y 0).val = (y 0).val by omega)
  | ⟨1, _⟩ => exact Fin.ext (show 128 * g + 1 * (y 1).val = (128 * g + (y 1).val) % 8192 by omega)

theorem grp_emb (g : ℕ) (hg : g < 64) (inb : ∀ a, (![0, 128 * g] : Fin 2 → ℕ) a + S256x128.size a ≤ S256x8192.size a) (y : S256x128.Idx) :
    grp ((Rect.unit (s := S256x8192) ![0, 128 * g] S256x128.size inb).emb y) = g
    ∧ inGrp ((Rect.unit (s := S256x8192) ![0, 128 * g] S256x128.size inb).emb y) = y := by
  have h1 : (y 1).val < 128 := (y 1).isLt
  refine ⟨show (128 * g + 1 * (y 1).val) / 128 = g by omega, ?_⟩
  funext a
  match a with
  | ⟨0, _⟩ => exact Fin.ext (show 0 + 1 * (y 0).val = (y 0).val by omega)
  | ⟨1, _⟩ => exact Fin.ext (show (128 * g + 1 * (y 1).val) % 128 = (y 1).val by omega)

theorem codes_piece {arg1 : Memref sig .tc .vmem S256x8192 .bf16} (harg1 : arg1.IsWhole) (x0 : Vec F S256x8192 .bf16) (g : ℕ) (hg : g < 64)
    (inb : ∀ a, (![0, 128 * g] : Fin 2 → ℕ) a + S256x128.size a ≤ S256x8192.size a) (y : S256x128.Idx) :
    gCodes (View.readAt (Elt F) arg1.view (Rect.unit (s := S256x8192) ![0, 128 * g] S256x128.size inb).toLoadRect (harg1.unread x0)) y
      = codesB x0 ((Rect.unit (s := S256x8192) ![0, 128 * g] S256x128.size inb).emb y) := by
  unfold codesB
  rw [load_cols harg1 x0 g hg inb, (grp_emb g hg inb y).1, (grp_emb g hg inb y).2]

theorem deq_piece {arg1 : Memref sig .tc .vmem S256x8192 .bf16} (harg1 : arg1.IsWhole) (x0 : Vec F S256x8192 .bf16) (g : ℕ) (hg : g < 64)
    (inb : ∀ a, (![0, 128 * g] : Fin 2 → ℕ) a + S256x128.size a ≤ S256x8192.size a) (y : S256x128.Idx) :
    gDeq (View.readAt (Elt F) arg1.view (Rect.unit (s := S256x8192) ![0, 128 * g] S256x128.size inb).toLoadRect (harg1.unread x0)) y
      = deqB x0 ((Rect.unit (s := S256x8192) ![0, 128 * g] S256x128.size inb).emb y) := by
  unfold deqB
  rw [load_cols harg1 x0 g hg inb, (grp_emb g hg inb y).1, (grp_emb g hg inb y).2]

/-- One more group's scale put into the tile of scales. -/
theorem scale_step {arg1 : Memref sig .tc .vmem S256x8192 .bf16} (harg1 : arg1.IsWhole) (x0 : Vec F S256x8192 .bf16) (g : ℕ) (hg : g < 64)
    (inb : ∀ a, (![0, 128 * g] : Fin 2 → ℕ) a + S256x128.size a ≤ S256x8192.size a) (acc : FVec F S256x64 .f32) (h : acc = scaleChain (xcols x0) g) :
    select (cmpi .eq lanes (broadcast S256x64 (BitVec.ofNat 32 g)))
      (broadcastTo S256x64 (shapeCast S256x1 (gScale (View.readAt (Elt F) arg1.view (Rect.unit (s := S256x8192) ![0, 128 * g] S256x128.size inb).toLoadRect (harg1.unread x0))) shapeCasts_S256x1_S256x1) broadcasts_S256x1_S256x64)
      acc = scaleChain (xcols x0) (g + 1) := by
  rw [load_cols harg1 x0 g hg inb, h]; rfl

/-- A rectangle at the origin of the size of the whole shape keeps each index. -/
theorem whole_idx {s : Shape} (off : Fin s.rank → ℕ) (inb : ∀ a, off a + s.size a ≤ s.size a) (j : s.Idx) :
    (Rect.unit (s := s) off s.size inb).idx j = j := by
  funext a
  have := inb a
  exact Fin.ext (show off a + 1 * (j a).val = (j a).val by omega)

/-- A load of a whole block reads the block. -/
theorem load_whole {κ : Kind} {sp : Space} {n m : ℕ} {e : EltTy} {b : Memref sig κ sp (⟨2, ![n, m]⟩ : Shape) e} (hb : b.IsWhole) (x : (⟨2, ![n, m]⟩ : Shape).Idx → Elt F e)
    (inb : ∀ a, (![0, 0] : Fin 2 → ℕ) a + (⟨2, ![n, m]⟩ : Shape).size a ≤ (⟨2, ![n, m]⟩ : Shape).size a) :
    View.readAt (Elt F) b.view (Rect.unit (s := (⟨2, ![n, m]⟩ : Shape)) ![0, 0] (⟨2, ![n, m]⟩ : Shape).size inb).toLoadRect (hb.unread x) = x := by
  funext y
  rw [hb.readAt_unread]
  exact congrArg x (whole_idx (s := (⟨2, ![n, m]⟩ : Shape)) ![0, 0] inb y)

/-- One store over the whole buffer leaves the value stored. -/
theorem read_one {κ : Kind} {sp : Space} {s : Shape} {e : EltTy} (v : View sig κ sp s e) (f : v.ty.Contents (Elt F)) (off : Fin s.rank → ℕ)
    (inb : ∀ a, off a + s.size a ≤ s.size a) (w : s.Idx → Elt F e) :
    v.read (Elt F) (v.writes (Elt F) f [⟨Rect.unit (s := s) off s.size inb, w⟩]) = w := by
  funext y
  refine View.read_writes_apply_of_pieces (v := v) (f := f) w _ ?_ y ?_
  · intro p hp x
    obtain rfl := List.mem_singleton.mp hp
    exact congrArg w (whole_idx off inb x).symm
  · exact ⟨_, List.mem_singleton.mpr rfl, (Rect.mem_set_unit (inb := inb)).mpr fun a => by have := inb a; have := (y a).isLt; omega⟩

theorem congr3 {α β γ δ : Sort*} (f : α → β → γ → δ) {a a' : α} {b b' : β} {c c' : γ} (ha : a = a') (hb : b = b') (hc : c = c') : f a b c = f a' b' c' := by
  subst ha; subst hb; subst hc; rfl

/-! ## The staging buffer of the weights: what a load of one slot reads after the copies -/

theorem read_squeeze_write {Val : EltTy → Type} {κ : Kind} {sp : Space} {s s' : Shape} {e : EltTy} (v : View sig κ sp s e) (r : Rect s) (h : s'.numel = r.shape.numel)
    (f : v.ty.Contents Val) (w : s'.Idx → Val e) (x : s'.Idx) :
    v.read Val (((v.slice r).reshape s' h).write Val f w Finset.univ) (r.emb (Shape.reshapeEquiv h x)) = w x := by
  rw [View.read_apply, show v.emb (r.emb (Shape.reshapeEquiv h x)) = ((v.slice r).reshape s' h).emb x from rfl,
    View.write_emb_of_mem _ _ (Finset.mem_univ _), cast_cast, cast_eq]

theorem read_squeeze_write_of_not_mem {Val : EltTy → Type} {κ : Kind} {sp : Space} {s s' : Shape} {e : EltTy} (v : View sig κ sp s e) (r : Rect s) (h : s'.numel = r.shape.numel)
    (f : v.ty.Contents Val) (w : s'.Idx → Val e) {y : s.Idx} (hy : ∀ x, r.emb x ≠ y) :
    v.read Val (((v.slice r).reshape s' h).write Val f w Finset.univ) y = v.read Val f y := by
  rw [View.read_apply, View.read_apply, View.write_of_not_mem]
  intro hm
  obtain ⟨x, -, hx⟩ := Finset.mem_map.mp hm
  exact hy _ (v.emb.injective hx)

end Cert.KernelIdeal.Hand

end
-- ==== Proof.RunA.lean ====
module

public import proofs.«01_k».proof.Proof.Kit

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4048000 in set_option sl_exec.dmaWindow true in set_option sl_exec.dmaWindowSet true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) :
    Σ' (L4 : List (View.Piece (Elt F) S256x1536 .bf16)), Σ' (L5 : List (View.Piece (Elt F) S256x512 .bf16)), Σ' (L6 : List (View.Piece (Elt F) S256x64 .bf16)), Σ' (L7 : List (View.Piece (Elt F) S256x8192 .fp8e4m3)), Σ' (L8 : List (View.Piece (Elt F) S256x64 .f32)), Σ' (LS0 : List (View.Piece (Elt F) S2112x8192 .bf16)), { LT1 : List (View.Piece (Elt F) S256x8192 .bf16) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13 ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1) ∗ (∃ d, owns (c : Thread nD τ) arg13 fullShare d) ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0__body i arg1 harg1 (Memref.whole main_arg1) (Memref.isWhole_whole _) arg3 harg3 arg4 harg4 arg5 harg5 arg6 harg6 arg7 harg7 arg8 harg8 arg9 harg9 arg10 harg10 arg11 harg11 arg12 harg12 arg13 harg13 cc0_scratch3) K } := by
  refine ⟨?_, ?_, ?_, ?_, ?_, ?_, ?_, fun W K => ?run⟩
  case run =>
    simp only [cc0__body_eq_skeleton]; unfold cc0__body_skel
    simp only [k0_part106_eq_skeleton, k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%fs2, %hfs2, HS2⟩, Hq0, Hq1, Hh0, HW, Hk⟩
    obtain rfl := harg1.eq_unread hf0; obtain rfl := harg3.eq_unread hf1; obtain rfl := harg4.eq_unread hf2; obtain rfl := harg5.eq_unread hf3; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]
    · iexists _, _; isplitr; swap; · iexact HS2
      ipureintro; rfl
    isplitl [Hq0]; · iexact Hq0
    isplitl [Hq1]; · iexact Hq1
    isplitl [Hh0]; · iexact Hh0
    iexists _; iexact HW

end Cert.KernelIdeal.Hand

end
-- ==== Proof.PiecesA.lean ====
/- What the pieces the run of the body leaves hold, each as a part of the closed form. -/
module

public import proofs.«01_k».proof.Proof.Closed
public import proofs.«01_k».proof.Proof.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pieces of the run, at points where the weights are dequantised -/

set_option maxHeartbeats 4000000 in
theorem codes_pieces_A  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) : ∀ p ∈ (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.2.2.1, ∀ y : p.1.shape.Idx, p.2 y = codesB x0 (p.1.emb y) := by
  unfold kernelRun0_A
  dsimp only
  exact List.forall_mem_cons.2 ⟨fun y => codes_piece harg1 x0 63 (by decide) inb_S256x8192_S256x128_0_8064 y,
    List.forall_mem_cons.2 ⟨fun y => codes_piece harg1 x0 62 (by decide) inb_S256x8192_S256x128_0_7936 y,
    List.forall_mem_cons.2 ⟨fun y => codes_piece harg1 x0 61 (by decide) inb_S256x8192_S256x128_0_7808 y,
    List.forall_mem_cons.2 ⟨fun y => codes_piece harg1 x0 60 (by decide) inb_S256x8192_S256x128_0_7680 y,
    List.forall_mem_cons.2 ⟨fun y => codes_piece harg1 x0 59 (by decide) inb_S256x8192_S256x128_0_7552 y,
    List.forall_mem_cons.2 ⟨fun y => codes_piece harg1 x0 58 (by decide) inb_S256x8192_S256x128_0_7424 y,
    List.forall_mem_cons.2 ⟨fun y => codes_piece harg1 x0 57 (by decide) inb_S256x8192_S256x128_0_7296 y,
    List.forall_mem_cons.2 ⟨fun y => codes_piece harg1 x0 56 (by decide) inb_S256x8192_S256x128_0_7168 y,
    List.forall_mem_cons.2 ⟨fun y => codes_piece harg1 x0 55 (by decide) inb_S256x8192_S256x128_0_7040 y,
    List.forall_mem_cons.2 ⟨fun y => codes_piece harg1 x0 54 (by decide) inb_S256x8192_S256x128_0_6912 y,
    List.forall_mem_cons.2 ⟨fun y => codes_piece harg1 x0 53 (by decide) inb_S256x8192_S256x128_0_6784 y,
    List.forall_mem_cons.2 ⟨fun y => codes_piece harg1 x0 52 (by decide) inb_S256x8192_S256x128_0_6656 y,
    List.forall_mem_cons.2 ⟨fun y => codes_piece harg1 x0 51 (by decide) inb_S256x8192_S256x128_0_6528 y,
    List.forall_mem_cons.2 ⟨fun y => codes_piece harg1 x0 50 (by decide) inb_S256x8192_S256x128_0_6400 y,
    List.forall_mem_cons.2 ⟨fun y => codes_piece harg1 x0 49 (by decide) inb_S256x8192_S256x128_0_6272 y,
    List.forall_mem_cons.2 ⟨fun y => codes_piece harg1 x0 48 (by decide) inb_S256x8192_S256x128_0_6144 y,
    List.forall_mem_cons.2 ⟨fun y => codes_piece harg1 x0 47 (by decide) inb_S256x8192_S256x128_0_6016 y,
    List.forall_mem_cons.2 ⟨fun y => codes_piece harg1 x0 46 (by decide) inb_S256x8192_S256x128_0_5888 y,
    List.forall_mem_cons.2 ⟨fun y => codes_piece harg1 x0 45 (by decide) inb_S256x8192_S256x128_0_5760 y,
    List.forall_mem_cons.2 ⟨fun y => codes_piece harg1 x0 44 (by decide) inb_S256x8192_S256x128_0_5632 y,
    List.forall_mem_cons.2 ⟨fun y => codes_piece harg1 x0 43 (by decide) inb_S256x8192_S256x128_0_5504 y,
    List.forall_mem_cons.2 ⟨fun y => codes_piece harg1 x0 42 (by decide) inb_S256x8192_S256x128_0_5376 y,
    List.forall_mem_cons.2 ⟨fun y => codes_piece harg1 x0 41 (by decide) inb_S256x8192_S256x128_0_5248 y,
    List.forall_mem_cons.2 ⟨fun y => codes_piece harg1 x0 40 (by decide) inb_S256x8192_S256x128_0_5120 y,
    List.forall_mem_cons.2 ⟨fun y => codes_piece harg1 x0 39 (by decide) inb_S256x8192_S256x128_0_4992 y,
    List.forall_mem_cons.2 ⟨fun y => codes_piece harg1 x0 38 (by decide) inb_S256x8192_S256x128_0_4864 y,
    List.forall_mem_cons.2 ⟨fun y => codes_piece harg1 x0 37 (by decide) inb_S256x8192_S256x128_0_4736 y,
    List.forall_mem_cons.2 ⟨fun y => codes_piece harg1 x0 36 (by decide) inb_S256x8192_S256x128_0_4608 y,
    List.forall_mem_cons.2 ⟨fun y => codes_piece harg1 x0 35 (by decide) inb_S256x8192_S256x128_0_4480 y,
    List.forall_mem_cons.2 ⟨fun y => codes_piece harg1 x0 34 (by decide) inb_S256x8192_S256x128_0_4352 y,
    List.forall_mem_cons.2 ⟨fun y => codes_piece harg1 x0 33 (by decide) inb_S256x8192_S256x128_0_4224 y,
    List.forall_mem_cons.2 ⟨fun y => codes_piece harg1 x0 32 (by decide) inb_S256x8192_S256x128_0_4096 y,
    List.forall_mem_cons.2 ⟨fun y => codes_piece harg1 x0 31 (by decide) inb_S256x8192_S256x128_0_3968 y,
    List.forall_mem_cons.2 ⟨fun y => codes_piece harg1 x0 30 (by decide) inb_S256x8192_S256x128_0_3840 y,
    List.forall_mem_cons.2 ⟨fun y => codes_piece harg1 x0 29 (by decide) inb_S256x8192_S256x128_0_3712 y,
    List.forall_mem_cons.2 ⟨fun y => codes_piece harg1 x0 28 (by decide) inb_S256x8192_S256x128_0_3584 y,
    List.forall_mem_cons.2 ⟨fun y => codes_piece harg1 x0 27 (by decide) inb_S256x8192_S256x128_0_3456 y,
    List.forall_mem_cons.2 ⟨fun y => codes_piece harg1 x0 26 (by decide) inb_S256x8192_S256x128_0_3328 y,
    List.forall_mem_cons.2 ⟨fun y => codes_piece harg1 x0 25 (by decide) inb_S256x8192_S256x128_0_3200 y,
    List.forall_mem_cons.2 ⟨fun y => codes_piece harg1 x0 24 (by decide) inb_S256x8192_S256x128_0_3072 y,
    List.forall_mem_cons.2 ⟨fun y => codes_piece harg1 x0 23 (by decide) inb_S256x8192_S256x128_0_2944 y,
    List.forall_mem_cons.2 ⟨fun y => codes_piece harg1 x0 22 (by decide) inb_S256x8192_S256x128_0_2816 y,
    List.forall_mem_cons.2 ⟨fun y => codes_piece harg1 x0 21 (by decide) inb_S256x8192_S256x128_0_2688 y,
    List.forall_mem_cons.2 ⟨fun y => codes_piece harg1 x0 20 (by decide) inb_S256x8192_S256x128_0_2560 y,
    List.forall_mem_cons.2 ⟨fun y => codes_piece harg1 x0 19 (by decide) inb_S256x8192_S256x128_0_2432 y,
    List.forall_mem_cons.2 ⟨fun y => codes_piece harg1 x0 18 (by decide) inb_S256x8192_S256x128_0_2304 y,
    List.forall_mem_cons.2 ⟨fun y => codes_piece harg1 x0 17 (by decide) inb_S256x8192_S256x128_0_2176 y,
    List.forall_mem_cons.2 ⟨fun y => codes_piece harg1 x0 16 (by decide) inb_S256x8192_S256x128_0_2048 y,
    List.forall_mem_cons.2 ⟨fun y => codes_piece harg1 x0 15 (by decide) inb_S256x8192_S256x128_0_1920 y,
    List.forall_mem_cons.2 ⟨fun y => codes_piece harg1 x0 14 (by decide) inb_S256x8192_S256x128_0_1792 y,
    List.forall_mem_cons.2 ⟨fun y => codes_piece harg1 x0 13 (by decide) inb_S256x8192_S256x128_0_1664 y,
    List.forall_mem_cons.2 ⟨fun y => codes_piece harg1 x0 12 (by decide) inb_S256x8192_S256x128_0_1536 y,
    List.forall_mem_cons.2 ⟨fun y => codes_piece harg1 x0 11 (by decide) inb_S256x8192_S256x128_0_1408 y,
    List.forall_mem_cons.2 ⟨fun y => codes_piece harg1 x0 10 (by decide) inb_S256x8192_S256x128_0_1280 y,
    List.forall_mem_cons.2 ⟨fun y => codes_piece harg1 x0 9 (by decide) inb_S256x8192_S256x128_0_1152 y,
    List.forall_mem_cons.2 ⟨fun y => codes_piece harg1 x0 8 (by decide) inb_S256x8192_S256x128_0_1024 y,
    List.forall_mem_cons.2 ⟨fun y => codes_piece harg1 x0 7 (by decide) inb_S256x8192_S256x128_0_896 y,
    List.forall_mem_cons.2 ⟨fun y => codes_piece harg1 x0 6 (by decide) inb_S256x8192_S256x128_0_768 y,
    List.forall_mem_cons.2 ⟨fun y => codes_piece harg1 x0 5 (by decide) inb_S256x8192_S256x128_0_640 y,
    List.forall_mem_cons.2 ⟨fun y => codes_piece harg1 x0 4 (by decide) inb_S256x8192_S256x128_0_512 y,
    List.forall_mem_cons.2 ⟨fun y => codes_piece harg1 x0 3 (by decide) inb_S256x8192_S256x128_0_384 y,
    List.forall_mem_cons.2 ⟨fun y => codes_piece harg1 x0 2 (by decide) inb_S256x8192_S256x128_0_256 y,
    List.forall_mem_cons.2 ⟨fun y => codes_piece harg1 x0 1 (by decide) inb_S256x8192_S256x128_0_128 y,
    List.forall_mem_cons.2 ⟨fun y => codes_piece harg1 x0 0 (by decide) inb_S256x8192_S256x128_0_0 y,
    fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

set_option maxHeartbeats 4000000 in
theorem deq_pieces_A (c : Dev nD) (arg1 : Memref sig .tc .vmem S256x8192 .bf16) (harg1 : arg1.IsWhole) (x0 : Vec F S256x8192 .bf16) :
    ∀ p ∈ kernelRun0_A.sl.HS1_64 c arg1 harg1 x0, ∀ y : p.1.shape.Idx, p.2 y = deqB x0 (p.1.emb y) := by
  unfold kernelRun0_A.sl.HS1_64
  exact List.forall_mem_cons.2 ⟨fun y => deq_piece harg1 x0 63 (by decide) inb_S256x8192_S256x128_0_8064 y,
    List.forall_mem_cons.2 ⟨fun y => deq_piece harg1 x0 62 (by decide) inb_S256x8192_S256x128_0_7936 y,
    List.forall_mem_cons.2 ⟨fun y => deq_piece harg1 x0 61 (by decide) inb_S256x8192_S256x128_0_7808 y,
    List.forall_mem_cons.2 ⟨fun y => deq_piece harg1 x0 60 (by decide) inb_S256x8192_S256x128_0_7680 y,
    List.forall_mem_cons.2 ⟨fun y => deq_piece harg1 x0 59 (by decide) inb_S256x8192_S256x128_0_7552 y,
    List.forall_mem_cons.2 ⟨fun y => deq_piece harg1 x0 58 (by decide) inb_S256x8192_S256x128_0_7424 y,
    List.forall_mem_cons.2 ⟨fun y => deq_piece harg1 x0 57 (by decide) inb_S256x8192_S256x128_0_7296 y,
    List.forall_mem_cons.2 ⟨fun y => deq_piece harg1 x0 56 (by decide) inb_S256x8192_S256x128_0_7168 y,
    List.forall_mem_cons.2 ⟨fun y => deq_piece harg1 x0 55 (by decide) inb_S256x8192_S256x128_0_7040 y,
    List.forall_mem_cons.2 ⟨fun y => deq_piece harg1 x0 54 (by decide) inb_S256x8192_S256x128_0_6912 y,
    List.forall_mem_cons.2 ⟨fun y => deq_piece harg1 x0 53 (by decide) inb_S256x8192_S256x128_0_6784 y,
    List.forall_mem_cons.2 ⟨fun y => deq_piece harg1 x0 52 (by decide) inb_S256x8192_S256x128_0_6656 y,
    List.forall_mem_cons.2 ⟨fun y => deq_piece harg1 x0 51 (by decide) inb_S256x8192_S256x128_0_6528 y,
    List.forall_mem_cons.2 ⟨fun y => deq_piece harg1 x0 50 (by decide) inb_S256x8192_S256x128_0_6400 y,
    List.forall_mem_cons.2 ⟨fun y => deq_piece harg1 x0 49 (by decide) inb_S256x8192_S256x128_0_6272 y,
    List.forall_mem_cons.2 ⟨fun y => deq_piece harg1 x0 48 (by decide) inb_S256x8192_S256x128_0_6144 y,
    List.forall_mem_cons.2 ⟨fun y => deq_piece harg1 x0 47 (by decide) inb_S256x8192_S256x128_0_6016 y,
    List.forall_mem_cons.2 ⟨fun y => deq_piece harg1 x0 46 (by decide) inb_S256x8192_S256x128_0_5888 y,
    List.forall_mem_cons.2 ⟨fun y => deq_piece harg1 x0 45 (by decide) inb_S256x8192_S256x128_0_5760 y,
    List.forall_mem_cons.2 ⟨fun y => deq_piece harg1 x0 44 (by decide) inb_S256x8192_S256x128_0_5632 y,
    List.forall_mem_cons.2 ⟨fun y => deq_piece harg1 x0 43 (by decide) inb_S256x8192_S256x128_0_5504 y,
    List.forall_mem_cons.2 ⟨fun y => deq_piece harg1 x0 42 (by decide) inb_S256x8192_S256x128_0_5376 y,
    List.forall_mem_cons.2 ⟨fun y => deq_piece harg1 x0 41 (by decide) inb_S256x8192_S256x128_0_5248 y,
    List.forall_mem_cons.2 ⟨fun y => deq_piece harg1 x0 40 (by decide) inb_S256x8192_S256x128_0_5120 y,
    List.forall_mem_cons.2 ⟨fun y => deq_piece harg1 x0 39 (by decide) inb_S256x8192_S256x128_0_4992 y,
    List.forall_mem_cons.2 ⟨fun y => deq_piece harg1 x0 38 (by decide) inb_S256x8192_S256x128_0_4864 y,
    List.forall_mem_cons.2 ⟨fun y => deq_piece harg1 x0 37 (by decide) inb_S256x8192_S256x128_0_4736 y,
    List.forall_mem_cons.2 ⟨fun y => deq_piece harg1 x0 36 (by decide) inb_S256x8192_S256x128_0_4608 y,
    List.forall_mem_cons.2 ⟨fun y => deq_piece harg1 x0 35 (by decide) inb_S256x8192_S256x128_0_4480 y,
    List.forall_mem_cons.2 ⟨fun y => deq_piece harg1 x0 34 (by decide) inb_S256x8192_S256x128_0_4352 y,
    List.forall_mem_cons.2 ⟨fun y => deq_piece harg1 x0 33 (by decide) inb_S256x8192_S256x128_0_4224 y,
    List.forall_mem_cons.2 ⟨fun y => deq_piece harg1 x0 32 (by decide) inb_S256x8192_S256x128_0_4096 y,
    List.forall_mem_cons.2 ⟨fun y => deq_piece harg1 x0 31 (by decide) inb_S256x8192_S256x128_0_3968 y,
    List.forall_mem_cons.2 ⟨fun y => deq_piece harg1 x0 30 (by decide) inb_S256x8192_S256x128_0_3840 y,
    List.forall_mem_cons.2 ⟨fun y => deq_piece harg1 x0 29 (by decide) inb_S256x8192_S256x128_0_3712 y,
    List.forall_mem_cons.2 ⟨fun y => deq_piece harg1 x0 28 (by decide) inb_S256x8192_S256x128_0_3584 y,
    List.forall_mem_cons.2 ⟨fun y => deq_piece harg1 x0 27 (by decide) inb_S256x8192_S256x128_0_3456 y,
    List.forall_mem_cons.2 ⟨fun y => deq_piece harg1 x0 26 (by decide) inb_S256x8192_S256x128_0_3328 y,
    List.forall_mem_cons.2 ⟨fun y => deq_piece harg1 x0 25 (by decide) inb_S256x8192_S256x128_0_3200 y,
    List.forall_mem_cons.2 ⟨fun y => deq_piece harg1 x0 24 (by decide) inb_S256x8192_S256x128_0_3072 y,
    List.forall_mem_cons.2 ⟨fun y => deq_piece harg1 x0 23 (by decide) inb_S256x8192_S256x128_0_2944 y,
    List.forall_mem_cons.2 ⟨fun y => deq_piece harg1 x0 22 (by decide) inb_S256x8192_S256x128_0_2816 y,
    List.forall_mem_cons.2 ⟨fun y => deq_piece harg1 x0 21 (by decide) inb_S256x8192_S256x128_0_2688 y,
    List.forall_mem_cons.2 ⟨fun y => deq_piece harg1 x0 20 (by decide) inb_S256x8192_S256x128_0_2560 y,
    List.forall_mem_cons.2 ⟨fun y => deq_piece harg1 x0 19 (by decide) inb_S256x8192_S256x128_0_2432 y,
    List.forall_mem_cons.2 ⟨fun y => deq_piece harg1 x0 18 (by decide) inb_S256x8192_S256x128_0_2304 y,
    List.forall_mem_cons.2 ⟨fun y => deq_piece harg1 x0 17 (by decide) inb_S256x8192_S256x128_0_2176 y,
    List.forall_mem_cons.2 ⟨fun y => deq_piece harg1 x0 16 (by decide) inb_S256x8192_S256x128_0_2048 y,
    List.forall_mem_cons.2 ⟨fun y => deq_piece harg1 x0 15 (by decide) inb_S256x8192_S256x128_0_1920 y,
    List.forall_mem_cons.2 ⟨fun y => deq_piece harg1 x0 14 (by decide) inb_S256x8192_S256x128_0_1792 y,
    List.forall_mem_cons.2 ⟨fun y => deq_piece harg1 x0 13 (by decide) inb_S256x8192_S256x128_0_1664 y,
    List.forall_mem_cons.2 ⟨fun y => deq_piece harg1 x0 12 (by decide) inb_S256x8192_S256x128_0_1536 y,
    List.forall_mem_cons.2 ⟨fun y => deq_piece harg1 x0 11 (by decide) inb_S256x8192_S256x128_0_1408 y,
    List.forall_mem_cons.2 ⟨fun y => deq_piece harg1 x0 10 (by decide) inb_S256x8192_S256x128_0_1280 y,
    List.forall_mem_cons.2 ⟨fun y => deq_piece harg1 x0 9 (by decide) inb_S256x8192_S256x128_0_1152 y,
    List.forall_mem_cons.2 ⟨fun y => deq_piece harg1 x0 8 (by decide) inb_S256x8192_S256x128_0_1024 y,
    List.forall_mem_cons.2 ⟨fun y => deq_piece harg1 x0 7 (by decide) inb_S256x8192_S256x128_0_896 y,
    List.forall_mem_cons.2 ⟨fun y => deq_piece harg1 x0 6 (by decide) inb_S256x8192_S256x128_0_768 y,
    List.forall_mem_cons.2 ⟨fun y => deq_piece harg1 x0 5 (by decide) inb_S256x8192_S256x128_0_640 y,
    List.forall_mem_cons.2 ⟨fun y => deq_piece harg1 x0 4 (by decide) inb_S256x8192_S256x128_0_512 y,
    List.forall_mem_cons.2 ⟨fun y => deq_piece harg1 x0 3 (by decide) inb_S256x8192_S256x128_0_384 y,
    List.forall_mem_cons.2 ⟨fun y => deq_piece harg1 x0 2 (by decide) inb_S256x8192_S256x128_0_256 y,
    List.forall_mem_cons.2 ⟨fun y => deq_piece harg1 x0 1 (by decide) inb_S256x8192_S256x128_0_128 y,
    List.forall_mem_cons.2 ⟨fun y => deq_piece harg1 x0 0 (by decide) inb_S256x8192_S256x128_0_0 y,
    fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

theorem deq_cover_A (c : Dev nD) (arg1 : Memref sig .tc .vmem S256x8192 .bf16) (harg1 : arg1.IsWhole) (x0 : Vec F S256x8192 .bf16) :
    ∀ y : S256x8192.Idx, ∃ p ∈ kernelRun0_A.sl.HS1_64 c arg1 harg1 x0, y ∈ p.1.set :=
  View.cover_of_tiledL _ S256x128.size (by sl_kernel_rfl)

/-- The load of the dequantised activations reads the tile. -/
theorem load_deq_A (c : Dev nD) (arg1 : Memref sig .tc .vmem S256x8192 .bf16) (harg1 : arg1.IsWhole) (arg12 : Memref sig .tc .vmem S256x8192 .bf16) (x0 : Vec F S256x8192 .bf16) :
    kernelRun0_A.sl.v3910 c arg1 harg1 arg12 x0 = deqB x0 := by
  unfold kernelRun0_A.sl.v3910
  rw [View.readCov_eq_canon _ _ _ (fun j => deq_cover_A c arg1 harg1 x0 _)]
  funext j
  rw [View.canon_apply_of_pieces (deqB x0) _ (deq_pieces_A c arg1 harg1 x0) _ (deq_cover_A c arg1 harg1 x0 _)]
  exact congrArg (deqB x0) (whole_idx _ _ j)

set_option maxHeartbeats 4000000 in
theorem scales_pay_A (c : Dev nD) (arg1 : Memref sig .tc .vmem S256x8192 .bf16) (harg1 : arg1.IsWhole) (x0 : Vec F S256x8192 .bf16) :
    k0_pay511 kernelRun0_A.sl.v3 (kernelRun0_A.sl.r_255 c arg1 harg1 x0) (kernelRun0_A.sl.r_257 c arg1 harg1 x0) 0#32 = scalesB x0 :=
  scale_step harg1 x0 63 (by decide) inb_S256x8192_S256x128_0_8064 _ (scale_step harg1 x0 62 (by decide) inb_S256x8192_S256x128_0_7936 _ (scale_step harg1 x0 61 (by decide) inb_S256x8192_S256x128_0_7808 _ (scale_step harg1 x0 60 (by decide) inb_S256x8192_S256x128_0_7680 _ (scale_step harg1 x0 59 (by decide) inb_S256x8192_S256x128_0_7552 _ (scale_step harg1 x0 58 (by decide) inb_S256x8192_S256x128_0_7424 _ (scale_step harg1 x0 57 (by decide) inb_S256x8192_S256x128_0_7296 _ (scale_step harg1 x0 56 (by decide) inb_S256x8192_S256x128_0_7168 _ (scale_step harg1 x0 55 (by decide) inb_S256x8192_S256x128_0_7040 _ (scale_step harg1 x0 54 (by decide) inb_S256x8192_S256x128_0_6912 _ (scale_step harg1 x0 53 (by decide) inb_S256x8192_S256x128_0_6784 _ (scale_step harg1 x0 52 (by decide) inb_S256x8192_S256x128_0_6656 _ (scale_step harg1 x0 51 (by decide) inb_S256x8192_S256x128_0_6528 _ (scale_step harg1 x0 50 (by decide) inb_S256x8192_S256x128_0_6400 _ (scale_step harg1 x0 49 (by decide) inb_S256x8192_S256x128_0_6272 _ (scale_step harg1 x0 48 (by decide) inb_S256x8192_S256x128_0_6144 _ (scale_step harg1 x0 47 (by decide) inb_S256x8192_S256x128_0_6016 _ (scale_step harg1 x0 46 (by decide) inb_S256x8192_S256x128_0_5888 _ (scale_step harg1 x0 45 (by decide) inb_S256x8192_S256x128_0_5760 _ (scale_step harg1 x0 44 (by decide) inb_S256x8192_S256x128_0_5632 _ (scale_step harg1 x0 43 (by decide) inb_S256x8192_S256x128_0_5504 _ (scale_step harg1 x0 42 (by decide) inb_S256x8192_S256x128_0_5376 _ (scale_step harg1 x0 41 (by decide) inb_S256x8192_S256x128_0_5248 _ (scale_step harg1 x0 40 (by decide) inb_S256x8192_S256x128_0_5120 _ (scale_step harg1 x0 39 (by decide) inb_S256x8192_S256x128_0_4992 _ (scale_step harg1 x0 38 (by decide) inb_S256x8192_S256x128_0_4864 _ (scale_step harg1 x0 37 (by decide) inb_S256x8192_S256x128_0_4736 _ (scale_step harg1 x0 36 (by decide) inb_S256x8192_S256x128_0_4608 _ (scale_step harg1 x0 35 (by decide) inb_S256x8192_S256x128_0_4480 _ (scale_step harg1 x0 34 (by decide) inb_S256x8192_S256x128_0_4352 _ (scale_step harg1 x0 33 (by decide) inb_S256x8192_S256x128_0_4224 _ (scale_step harg1 x0 32 (by decide) inb_S256x8192_S256x128_0_4096 _ (scale_step harg1 x0 31 (by decide) inb_S256x8192_S256x128_0_3968 _ (scale_step harg1 x0 30 (by decide) inb_S256x8192_S256x128_0_3840 _ (scale_step harg1 x0 29 (by decide) inb_S256x8192_S256x128_0_3712 _ (scale_step harg1 x0 28 (by decide) inb_S256x8192_S256x128_0_3584 _ (scale_step harg1 x0 27 (by decide) inb_S256x8192_S256x128_0_3456 _ (scale_step harg1 x0 26 (by decide) inb_S256x8192_S256x128_0_3328 _ (scale_step harg1 x0 25 (by decide) inb_S256x8192_S256x128_0_3200 _ (scale_step harg1 x0 24 (by decide) inb_S256x8192_S256x128_0_3072 _ (scale_step harg1 x0 23 (by decide) inb_S256x8192_S256x128_0_2944 _ (scale_step harg1 x0 22 (by decide) inb_S256x8192_S256x128_0_2816 _ (scale_step harg1 x0 21 (by decide) inb_S256x8192_S256x128_0_2688 _ (scale_step harg1 x0 20 (by decide) inb_S256x8192_S256x128_0_2560 _ (scale_step harg1 x0 19 (by decide) inb_S256x8192_S256x128_0_2432 _ (scale_step harg1 x0 18 (by decide) inb_S256x8192_S256x128_0_2304 _ (scale_step harg1 x0 17 (by decide) inb_S256x8192_S256x128_0_2176 _ (scale_step harg1 x0 16 (by decide) inb_S256x8192_S256x128_0_2048 _ (scale_step harg1 x0 15 (by decide) inb_S256x8192_S256x128_0_1920 _ (scale_step harg1 x0 14 (by decide) inb_S256x8192_S256x128_0_1792 _ (scale_step harg1 x0 13 (by decide) inb_S256x8192_S256x128_0_1664 _ (scale_step harg1 x0 12 (by decide) inb_S256x8192_S256x128_0_1536 _ (scale_step harg1 x0 11 (by decide) inb_S256x8192_S256x128_0_1408 _ (scale_step harg1 x0 10 (by decide) inb_S256x8192_S256x128_0_1280 _ (scale_step harg1 x0 9 (by decide) inb_S256x8192_S256x128_0_1152 _ (scale_step harg1 x0 8 (by decide) inb_S256x8192_S256x128_0_1024 _ (scale_step harg1 x0 7 (by decide) inb_S256x8192_S256x128_0_896 _ (scale_step harg1 x0 6 (by decide) inb_S256x8192_S256x128_0_768 _ (scale_step harg1 x0 5 (by decide) inb_S256x8192_S256x128_0_640 _ (scale_step harg1 x0 4 (by decide) inb_S256x8192_S256x128_0_512 _ (scale_step harg1 x0 3 (by decide) inb_S256x8192_S256x128_0_384 _ (scale_step harg1 x0 2 (by decide) inb_S256x8192_S256x128_0_256 _ (scale_step harg1 x0 1 (by decide) inb_S256x8192_S256x128_0_128 _ (scale_step harg1 x0 0 (by decide) inb_S256x8192_S256x128_0_0 _ (rfl))))))))))))))))))))))))))))))))))))))))))))))))))))))))))))))))

end Cert.KernelIdeal.Hand

end
-- ==== Proof.Slots.lean ====
/- What a load of one slot of the staging buffer reads after the copies, and the dequantised block computed from it. -/
module

public import proofs.«01_k».proof.Proof.Closed
public import Idealize.ShloMosaic.Lib.WholeRead
public import Idealize.ShloMosaic.Lib.Pointwise
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## What a load of one slot of the staging buffer reads after the copies into it -/

theorem slot_read_own (arg13 : Memref sig .tc .vmem S2x128x8192 .fp8e4m3) (o : ℕ) {n : ℕ}
    (inb : ∀ a, (![o, 0, 0] : Fin 3 → ℕ) a + (⟨3, ![1, n, 8192]⟩ : Shape).size a ≤ S2x128x8192.size a)
    (hs : (⟨3, ![1, n, 8192]⟩ : Shape).Squeezes (⟨2, ![n, 8192]⟩ : Shape)) (p)
    (f : arg13.view.ty.Contents (Elt F)) (u : (⟨2, ![n, 8192]⟩ : Shape).Idx → Elt F .fp8e4m3) (y : (⟨3, ![1, n, 8192]⟩ : Shape).Idx) :
    View.read (Elt F) arg13.view
      (View.write (Elt F) ((arg13.slice (Rect.unit (s := S2x128x8192) ![o, 0, 0] (⟨3, ![1, n, 8192]⟩ : Shape).size inb) p).squeeze (⟨2, ![n, 8192]⟩ : Shape) hs).view f u Finset.univ)
      ((Rect.unit (s := S2x128x8192) ![o, 0, 0] (⟨3, ![1, n, 8192]⟩ : Shape).size inb).idx y)
    = u (ix2 (⟨(y 1).val, (y 1).isLt⟩ : Fin n) (⟨(y 2).val, (y 2).isLt⟩ : Fin 8192)) := by
  have e : (Rect.unit (s := S2x128x8192) ![o, 0, 0] (⟨3, ![1, n, 8192]⟩ : Shape).size inb).idx y
      = (Rect.unit (s := S2x128x8192) ![o, 0, 0] (⟨3, ![1, n, 8192]⟩ : Shape).size inb).emb
          (Shape.reshapeEquiv hs.numel_eq (ix2 (⟨(y 1).val, (y 1).isLt⟩ : Fin n) (⟨(y 2).val, (y 2).isLt⟩ : Fin 8192))) := by
    rw [show Shape.reshapeEquiv hs.numel_eq (ix2 (⟨(y 1).val, (y 1).isLt⟩ : Fin n) (⟨(y 2).val, (y 2).isLt⟩ : Fin 8192)) = y from ?_]
    · rfl
    · refine (Shape.reshapeEquiv_cons_one hs.numel_eq _).trans ?_
      have h0 : (y 0).val < 1 := (y 0).isLt
      funext a
      match a with
      | ⟨0, _⟩ => exact Fin.ext (show 0 = (y 0).val by omega)
      | ⟨1, _⟩ => rfl
      | ⟨2, _⟩ => rfl
  rw [e]
  exact read_squeeze_write arg13.view _ hs.numel_eq f u _

theorem slot_read (arg13 : Memref sig .tc .vmem S2x128x8192 .fp8e4m3) (o o' : ℕ) (ho : o' ≠ o) {n n' : ℕ}
    (inb : ∀ a, (![o, 0, 0] : Fin 3 → ℕ) a + (⟨3, ![1, n, 8192]⟩ : Shape).size a ≤ S2x128x8192.size a)
    (inb' : ∀ a, (![o', 0, 0] : Fin 3 → ℕ) a + (⟨3, ![1, n', 8192]⟩ : Shape).size a ≤ S2x128x8192.size a)
    (hs : (⟨3, ![1, n, 8192]⟩ : Shape).Squeezes (⟨2, ![n, 8192]⟩ : Shape)) (p)
    (hs' : (⟨3, ![1, n', 8192]⟩ : Shape).Squeezes (⟨2, ![n', 8192]⟩ : Shape)) (p')
    (f : arg13.view.ty.Contents (Elt F)) (u : (⟨2, ![n, 8192]⟩ : Shape).Idx → Elt F .fp8e4m3) (u' : (⟨2, ![n', 8192]⟩ : Shape).Idx → Elt F .fp8e4m3) (y : (⟨3, ![1, n, 8192]⟩ : Shape).Idx) :
    View.read (Elt F) arg13.view
      (View.write (Elt F) ((arg13.slice (Rect.unit (s := S2x128x8192) ![o', 0, 0] (⟨3, ![1, n', 8192]⟩ : Shape).size inb') p').squeeze (⟨2, ![n', 8192]⟩ : Shape) hs').view
        (View.write (Elt F) ((arg13.slice (Rect.unit (s := S2x128x8192) ![o, 0, 0] (⟨3, ![1, n, 8192]⟩ : Shape).size inb) p).squeeze (⟨2, ![n, 8192]⟩ : Shape) hs).view f u Finset.univ) u' Finset.univ)
      ((Rect.unit (s := S2x128x8192) ![o, 0, 0] (⟨3, ![1, n, 8192]⟩ : Shape).size inb).idx y)
    = u (ix2 (⟨(y 1).val, (y 1).isLt⟩ : Fin n) (⟨(y 2).val, (y 2).isLt⟩ : Fin 8192)) := by
  refine (read_squeeze_write_of_not_mem arg13.view _ hs'.numel_eq _ u' ?_).trans (slot_read_own arg13 o inb hs p f u y)
  · intro x hx
    have h0 : (y 0).val < 1 := (y 0).isLt
    have h1 : (x 0).val < 1 := (x 0).isLt
    have := congrArg Fin.val (congrFun hx 0)
    have e : o' + 1 * (x 0).val = o + 1 * (y 0).val := this
    omega

/-- One block of weights, dequantised: each code times the scale of its row of blocks and its column. -/
theorem wpay_apply (b n : ℕ) (v : FVec F S17x8192 .f32) (hb : b < 17) (hs : S17x8192.Slices ![b, 0] (⟨2, ![1, 8192]⟩ : Shape)) (buf : Vec F (⟨3, ![1, n, 8192]⟩ : Shape) .fp8e4m3)
    (hc : (⟨3, ![1, n, 8192]⟩ : Shape).ShapeCasts (⟨2, ![n, 8192]⟩ : Shape)) (hc' : (⟨2, ![n, 8192]⟩ : Shape).ShapeCasts (⟨2, ![n, 8192]⟩ : Shape))
    (hbr : (⟨2, ![1, 8192]⟩ : Shape).Broadcasts (⟨2, ![n, 8192]⟩ : Shape)) (r : Fin n) (l : Fin 8192) :
    shapeCast (⟨2, ![n, 8192]⟩ : Shape) (mulf (extf .bf16 (shapeCast (⟨2, ![n, 8192]⟩ : Shape) buf hc) bitsLt_fp8e4m3_bf16)
      (broadcastTo (⟨2, ![n, 8192]⟩ : Shape) (truncf .bf16 (extractStridedSlice (⟨2, ![1, 8192]⟩ : Shape) ![b, 0] v hs) bitsLt_bf16_f32) hbr)) hc' (ix2 r l)
    = FloatOps.mulf (FloatOps.extf .bf16 bitsLt_fp8e4m3_bf16 (buf (ix3 (0 : Fin 1) r l))) (FloatOps.truncf .bf16 bitsLt_bf16_f32 (v (ix2 (⟨b, hb⟩ : Fin 17) l))) := by
  have e : Shape.reshapeEquiv hc (Shape.reshapeEquiv hc' (ix2 r l)) = ix3 (0 : Fin 1) r l := by
    rw [Shape.reshapeEquiv_self]
    refine (Shape.reshapeEquiv_cons_one hc _).trans ?_
    funext a
    match a with
    | ⟨0, _⟩ => rfl
    | ⟨1, _⟩ => rfl
    | ⟨2, _⟩ => rfl
  have e' : Shape.reshapeEquiv hc' (ix2 r l) = ix2 r l := Shape.reshapeEquiv_self _ _
  unfold shapeCast mulf extf broadcastTo truncf extractStridedSlice
  dsimp only
  rw [e, e']
  congr 2
  refine congrArg v ?_
  funext a
  match a with
  | ⟨0, _⟩ => rfl
  | ⟨1, _⟩ => exact Fin.ext (show 0 + l.val = l.val by omega)

/-- One block's piece of the dequantised weights. -/
theorem wpiece (b n m : ℕ) (hb : b < 17) (hn : n ≤ 128) (w : Vec F S2112x8192 .fp8e4m3) (ws : Vec F S17x64 .f32) (hs : S17x8192.Slices ![b, 0] (⟨2, ![1, 8192]⟩ : Shape)) (buf : Vec F (⟨3, ![1, n, 8192]⟩ : Shape) .fp8e4m3)
    (hc : (⟨3, ![1, n, 8192]⟩ : Shape).ShapeCasts (⟨2, ![n, 8192]⟩ : Shape)) (hc' : (⟨2, ![n, 8192]⟩ : Shape).ShapeCasts (⟨2, ![n, 8192]⟩ : Shape))
    (hbr : (⟨2, ![1, 8192]⟩ : Shape).Broadcasts (⟨2, ![n, 8192]⟩ : Shape)) (hm : m = 128 * b)
    (inb : ∀ a, (![m, 0] : Fin 2 → ℕ) a + (⟨2, ![n, 8192]⟩ : Shape).size a ≤ S2112x8192.size a) (y : (⟨2, ![n, 8192]⟩ : Shape).Idx)
    (hbuf : buf (ix3 (0 : Fin 1) (y 0) (y 1)) = w ((Rect.unit (s := S2112x8192) ![m, 0] (⟨2, ![n, 8192]⟩ : Shape).size inb).emb y)) :
    shapeCast (⟨2, ![n, 8192]⟩ : Shape) (mulf (extf .bf16 (shapeCast (⟨2, ![n, 8192]⟩ : Shape) buf hc) bitsLt_fp8e4m3_bf16)
      (broadcastTo (⟨2, ![n, 8192]⟩ : Shape) (truncf .bf16 (extractStridedSlice (⟨2, ![1, 8192]⟩ : Shape) ![b, 0] (k0_pay1 ws) hs) bitsLt_bf16_f32) hbr)) hc' y
    = wdeqB w ws ((Rect.unit (s := S2112x8192) ![m, 0] (⟨2, ![n, 8192]⟩ : Shape).size inb).emb y) := by
  subst hm
  obtain ⟨r, l, rfl⟩ : ∃ (r : Fin n) (l : Fin 8192), y = ix2 r l := ⟨y 0, y 1, (ix2_eta y).symm⟩
  have h0 : r.val < n := r.isLt
  rw [wpay_apply b n (k0_pay1 ws) hb hs buf hc hc' hbr r l, show buf (ix3 (0 : Fin 1) r l) = _ from hbuf]
  unfold wdeqB
  refine congrArg (fun t => FloatOps.mulf _ (FloatOps.truncf .bf16 bitsLt_bf16_f32 (k0_pay1 ws t))) ?_
  funext a
  match a with
  | ⟨0, _⟩ => exact Fin.ext (show b = (128 * b + 1 * r.val) / 128 by omega)
  | ⟨1, _⟩ => exact Fin.ext (show l.val = 0 + 1 * l.val by omega)

end Cert.KernelIdeal.Hand

end
-- ==== Proof.WeightsA.lean ====
/- The dequantised weights the first point leaves in its scratch buffer. -/
module

public import proofs.«01_k».proof.Proof.Closed
public import proofs.«01_k».proof.Proof.Slots
public import proofs.«01_k».proof.Proof.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A load of a whole block reads the block. -/
theorem load_ws (arg3 : Memref sig .tc .vmem S17x64 .f32) (harg3 : arg3.IsWhole) (x1 : Vec F S17x64 .f32) :
    View.readAt (Elt F) arg3.view (Rect.unit (s := S17x64) ![0, 0] S17x64.size inb_S17x64_S17x64_0_0).toLoadRect (harg3.unread x1) = x1 := by
  funext y
  rw [harg3.readAt_unread]
  exact congrArg x1 (whole_idx _ _ y)

theorem v4002_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4002 c arg13 harg13 x13 fh0 (ix3 (0 : Fin 1) (y 0) (y 1)) = fh0 ((Rect.unit (s := S2112x8192) ![0, 0] S128x8192.size inb_S2112x8192_S128x8192_0_0).emb y) := by
  obtain ⟨r, l, rfl⟩ : ∃ (r : Fin 128) (l : Fin 8192), y = ix2 r l := ⟨y 0, y 1, (ix2_eta y).symm⟩
  unfold kernelRun0_A.sl.v4002
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4022_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4022 c arg13 harg13 x13 fh0 (ix3 (0 : Fin 1) (y 0) (y 1)) = fh0 ((Rect.unit (s := S2112x8192) ![128, 0] S128x8192.size inb_S2112x8192_S128x8192_128_0).emb y) := by
  obtain ⟨r, l, rfl⟩ : ∃ (r : Fin 128) (l : Fin 8192), y = ix2 r l := ⟨y 0, y 1, (ix2_eta y).symm⟩
  unfold kernelRun0_A.sl.v4022
  exact slot_read arg13 1 0 (by decide) inb_S2x128x8192_S1x128x8192_1_0_0 inb_S2x128x8192_S1x128x8192_0_0_0 squeezes_S1x128x8192_S128x8192 _ squeezes_S1x128x8192_S128x8192 _ _ _ _ _

theorem v4042_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4042 c arg13 harg13 x13 fh0 (ix3 (0 : Fin 1) (y 0) (y 1)) = fh0 ((Rect.unit (s := S2112x8192) ![256, 0] S128x8192.size inb_S2112x8192_S128x8192_256_0).emb y) := by
  obtain ⟨r, l, rfl⟩ : ∃ (r : Fin 128) (l : Fin 8192), y = ix2 r l := ⟨y 0, y 1, (ix2_eta y).symm⟩
  unfold kernelRun0_A.sl.v4042
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4062_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4062 c arg13 harg13 x13 fh0 (ix3 (0 : Fin 1) (y 0) (y 1)) = fh0 ((Rect.unit (s := S2112x8192) ![384, 0] S128x8192.size inb_S2112x8192_S128x8192_384_0).emb y) := by
  obtain ⟨r, l, rfl⟩ : ∃ (r : Fin 128) (l : Fin 8192), y = ix2 r l := ⟨y 0, y 1, (ix2_eta y).symm⟩
  unfold kernelRun0_A.sl.v4062
  exact slot_read arg13 1 0 (by decide) inb_S2x128x8192_S1x128x8192_1_0_0 inb_S2x128x8192_S1x128x8192_0_0_0 squeezes_S1x128x8192_S128x8192 _ squeezes_S1x128x8192_S128x8192 _ _ _ _ _

theorem v4082_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4082 c arg13 harg13 x13 fh0 (ix3 (0 : Fin 1) (y 0) (y 1)) = fh0 ((Rect.unit (s := S2112x8192) ![512, 0] S128x8192.size inb_S2112x8192_S128x8192_512_0).emb y) := by
  obtain ⟨r, l, rfl⟩ : ∃ (r : Fin 128) (l : Fin 8192), y = ix2 r l := ⟨y 0, y 1, (ix2_eta y).symm⟩
  unfold kernelRun0_A.sl.v4082
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4102_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4102 c arg13 harg13 x13 fh0 (ix3 (0 : Fin 1) (y 0) (y 1)) = fh0 ((Rect.unit (s := S2112x8192) ![640, 0] S128x8192.size inb_S2112x8192_S128x8192_640_0).emb y) := by
  obtain ⟨r, l, rfl⟩ : ∃ (r : Fin 128) (l : Fin 8192), y = ix2 r l := ⟨y 0, y 1, (ix2_eta y).symm⟩
  unfold kernelRun0_A.sl.v4102
  exact slot_read arg13 1 0 (by decide) inb_S2x128x8192_S1x128x8192_1_0_0 inb_S2x128x8192_S1x128x8192_0_0_0 squeezes_S1x128x8192_S128x8192 _ squeezes_S1x128x8192_S128x8192 _ _ _ _ _

theorem v4122_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4122 c arg13 harg13 x13 fh0 (ix3 (0 : Fin 1) (y 0) (y 1)) = fh0 ((Rect.unit (s := S2112x8192) ![768, 0] S128x8192.size inb_S2112x8192_S128x8192_768_0).emb y) := by
  obtain ⟨r, l, rfl⟩ : ∃ (r : Fin 128) (l : Fin 8192), y = ix2 r l := ⟨y 0, y 1, (ix2_eta y).symm⟩
  unfold kernelRun0_A.sl.v4122
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4142_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4142 c arg13 harg13 x13 fh0 (ix3 (0 : Fin 1) (y 0) (y 1)) = fh0 ((Rect.unit (s := S2112x8192) ![896, 0] S128x8192.size inb_S2112x8192_S128x8192_896_0).emb y) := by
  obtain ⟨r, l, rfl⟩ : ∃ (r : Fin 128) (l : Fin 8192), y = ix2 r l := ⟨y 0, y 1, (ix2_eta y).symm⟩
  unfold kernelRun0_A.sl.v4142
  exact slot_read arg13 1 0 (by decide) inb_S2x128x8192_S1x128x8192_1_0_0 inb_S2x128x8192_S1x128x8192_0_0_0 squeezes_S1x128x8192_S128x8192 _ squeezes_S1x128x8192_S128x8192 _ _ _ _ _

theorem v4162_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4162 c arg13 harg13 x13 fh0 (ix3 (0 : Fin 1) (y 0) (y 1)) = fh0 ((Rect.unit (s := S2112x8192) ![1024, 0] S128x8192.size inb_S2112x8192_S128x8192_1024_0).emb y) := by
  obtain ⟨r, l, rfl⟩ : ∃ (r : Fin 128) (l : Fin 8192), y = ix2 r l := ⟨y 0, y 1, (ix2_eta y).symm⟩
  unfold kernelRun0_A.sl.v4162
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4182_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4182 c arg13 harg13 x13 fh0 (ix3 (0 : Fin 1) (y 0) (y 1)) = fh0 ((Rect.unit (s := S2112x8192) ![1152, 0] S128x8192.size inb_S2112x8192_S128x8192_1152_0).emb y) := by
  obtain ⟨r, l, rfl⟩ : ∃ (r : Fin 128) (l : Fin 8192), y = ix2 r l := ⟨y 0, y 1, (ix2_eta y).symm⟩
  unfold kernelRun0_A.sl.v4182
  exact slot_read arg13 1 0 (by decide) inb_S2x128x8192_S1x128x8192_1_0_0 inb_S2x128x8192_S1x128x8192_0_0_0 squeezes_S1x128x8192_S128x8192 _ squeezes_S1x128x8192_S128x8192 _ _ _ _ _

theorem v4202_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4202 c arg13 harg13 x13 fh0 (ix3 (0 : Fin 1) (y 0) (y 1)) = fh0 ((Rect.unit (s := S2112x8192) ![1280, 0] S128x8192.size inb_S2112x8192_S128x8192_1280_0).emb y) := by
  obtain ⟨r, l, rfl⟩ : ∃ (r : Fin 128) (l : Fin 8192), y = ix2 r l := ⟨y 0, y 1, (ix2_eta y).symm⟩
  unfold kernelRun0_A.sl.v4202
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4222_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4222 c arg13 harg13 x13 fh0 (ix3 (0 : Fin 1) (y 0) (y 1)) = fh0 ((Rect.unit (s := S2112x8192) ![1408, 0] S128x8192.size inb_S2112x8192_S128x8192_1408_0).emb y) := by
  obtain ⟨r, l, rfl⟩ : ∃ (r : Fin 128) (l : Fin 8192), y = ix2 r l := ⟨y 0, y 1, (ix2_eta y).symm⟩
  unfold kernelRun0_A.sl.v4222
  exact slot_read arg13 1 0 (by decide) inb_S2x128x8192_S1x128x8192_1_0_0 inb_S2x128x8192_S1x128x8192_0_0_0 squeezes_S1x128x8192_S128x8192 _ squeezes_S1x128x8192_S128x8192 _ _ _ _ _

theorem v4242_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4242 c arg13 harg13 x13 fh0 (ix3 (0 : Fin 1) (y 0) (y 1)) = fh0 ((Rect.unit (s := S2112x8192) ![1536, 0] S128x8192.size inb_S2112x8192_S128x8192_1536_0).emb y) := by
  obtain ⟨r, l, rfl⟩ : ∃ (r : Fin 128) (l : Fin 8192), y = ix2 r l := ⟨y 0, y 1, (ix2_eta y).symm⟩
  unfold kernelRun0_A.sl.v4242
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4262_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4262 c arg13 harg13 x13 fh0 (ix3 (0 : Fin 1) (y 0) (y 1)) = fh0 ((Rect.unit (s := S2112x8192) ![1664, 0] S128x8192.size inb_S2112x8192_S128x8192_1664_0).emb y) := by
  obtain ⟨r, l, rfl⟩ : ∃ (r : Fin 128) (l : Fin 8192), y = ix2 r l := ⟨y 0, y 1, (ix2_eta y).symm⟩
  unfold kernelRun0_A.sl.v4262
  exact slot_read arg13 1 0 (by decide) inb_S2x128x8192_S1x128x8192_1_0_0 inb_S2x128x8192_S1x128x8192_0_0_0 squeezes_S1x128x8192_S128x8192 _ squeezes_S1x128x8192_S128x8192 _ _ _ _ _

theorem v4282_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4282 c arg13 harg13 x13 fh0 (ix3 (0 : Fin 1) (y 0) (y 1)) = fh0 ((Rect.unit (s := S2112x8192) ![1792, 0] S128x8192.size inb_S2112x8192_S128x8192_1792_0).emb y) := by
  obtain ⟨r, l, rfl⟩ : ∃ (r : Fin 128) (l : Fin 8192), y = ix2 r l := ⟨y 0, y 1, (ix2_eta y).symm⟩
  unfold kernelRun0_A.sl.v4282
  exact slot_read arg13 0 1 (by decide) inb_S2x128x8192_S1x128x8192_0_0_0 inb_S2x128x8192_S1x128x8192_1_0_0 squeezes_S1x128x8192_S128x8192 _ squeezes_S1x128x8192_S128x8192 _ _ _ _ _

theorem v4302_apply (c : Dev nD) (arg13 : Memref sig .tc .vmem S2x128x8192 .fp8e4m3) (harg13 : arg13.IsWhole) (x13 : Vec F S2x128x8192 .fp8e4m3) (fh0 : HbBuf0 (F := F) c hbM0_0) (y : S128x8192.Idx) :
    kernelRun0_A.sl.v4302 c arg13 harg13 x13 fh0 (ix3 (0 : Fin 1) (y 0) (y 1)) = fh0 ((Rect.unit (s := S2112x8192) ![1920, 0] S128x8192.size inb_S2112x8192_S128x8192_1920_0).emb y) := by
  obtain ⟨r, l, rfl⟩ : ∃ (r : Fin 128) (l : Fin 8192), y = ix2 r l := ⟨y 0, y 1, (ix2_eta y).symm⟩
  unfold kernelRun0_A.sl.v4302
  exact slot_read arg13 1 0 (by decide) inb_S2x128x8192_S1x128x8192_1_0_0 inb_S2x128x8192_S1x64x8192_0_0_0 squeezes_S1x128x8192_S128x8192 _ squeezes_S1x64x8192_S64x8192 _ _ _ _ _

theorem v4317_apply (c : Dev nD) (arg13 : Memref sig .tc .vmem S2x128x8192 .fp8e4m3) (harg13 : arg13.IsWhole) (x13 : Vec F S2x128x8192 .fp8e4m3) (fh0 : HbBuf0 (F := F) c hbM0_0) (y : S64x8192.Idx) :
    kernelRun0_A.sl.v4317 c arg13 harg13 x13 fh0 (ix3 (0 : Fin 1) (y 0) (y 1)) = fh0 ((Rect.unit (s := S2112x8192) ![2048, 0] S64x8192.size inb_S2112x8192_S64x8192_2048_0).emb y) := by
  obtain ⟨r, l, rfl⟩ : ∃ (r : Fin 64) (l : Fin 8192), y = ix2 r l := ⟨y 0, y 1, (ix2_eta y).symm⟩
  unfold kernelRun0_A.sl.v4317
  exact slot_read_own arg13 0 inb_S2x128x8192_S1x64x8192_0_0_0 squeezes_S1x64x8192_S64x8192 _ _ _ _

set_option maxHeartbeats 4000000 in
theorem weights_pieces_A (c : Dev nD) (arg3 : Memref sig .tc .vmem S17x64 .f32) (harg3 : arg3.IsWhole) (arg11 : Memref sig .tc .vmem S2112x8192 .bf16) (arg13 : Memref sig .tc .vmem S2x128x8192 .fp8e4m3) (harg13 : arg13.IsWhole) (x1 : Vec F S17x64 .f32) (x13 : Vec F S2x128x8192 .fp8e4m3) (fh0 : HbBuf0 (F := F) c hbM0_0) :
    ∀ p ∈ kernelRun0_A.sl.HS0_17 c arg3 harg3 arg13 harg13 x1 x13 fh0, ∀ y : p.1.shape.Idx, p.2 y = wdeqB fh0 x1 (p.1.emb y) := by
  have h : ∀ p ∈ kernelRun0_A.sl.HS0_17 c arg3 harg3 arg13 harg13 x1 x13 fh0, ∀ y : p.1.shape.Idx,
      p.2 y = wdeqB fh0 (View.readAt (Elt F) arg3.view (Rect.unit (s := S17x64) ![0, 0] S17x64.size inb_S17x64_S17x64_0_0).toLoadRect (harg3.unread x1)) (p.1.emb y) := by
    unfold kernelRun0_A.sl.HS0_17
    exact List.forall_mem_cons.2 ⟨fun y => wpiece 16 64 2048 (by decide) (by decide) fh0 _ slices_S17x8192_o16_0_S1x8192 _ shapeCasts_S1x64x8192_S64x8192 shapeCasts_S64x8192_S64x8192 broadcasts_S1x8192_S64x8192 rfl inb_S2112x8192_S64x8192_2048_0 y
      (v4317_apply c arg13 harg13 x13 fh0 y),
    List.forall_mem_cons.2 ⟨fun y => wpiece 15 128 1920 (by decide) (by decide) fh0 _ slices_S17x8192_o15_0_S1x8192 _ shapeCasts_S1x128x8192_S128x8192 shapeCasts_S128x8192_S128x8192 broadcasts_S1x8192_S128x8192 rfl inb_S2112x8192_S128x8192_1920_0 y
      (v4302_apply c arg13 harg13 x13 fh0 y),
    List.forall_mem_cons.2 ⟨fun y => wpiece 14 128 1792 (by decide) (by decide) fh0 _ slices_S17x8192_o14_0_S1x8192 _ shapeCasts_S1x128x8192_S128x8192 shapeCasts_S128x8192_S128x8192 broadcasts_S1x8192_S128x8192 rfl inb_S2112x8192_S128x8192_1792_0 y
      (v4282_apply c arg13 harg13 x13 fh0 y),
    List.forall_mem_cons.2 ⟨fun y => wpiece 13 128 1664 (by decide) (by decide) fh0 _ slices_S17x8192_o13_0_S1x8192 _ shapeCasts_S1x128x8192_S128x8192 shapeCasts_S128x8192_S128x8192 broadcasts_S1x8192_S128x8192 rfl inb_S2112x8192_S128x8192_1664_0 y
      (v4262_apply c arg13 harg13 x13 fh0 y),
    List.forall_mem_cons.2 ⟨fun y => wpiece 12 128 1536 (by decide) (by decide) fh0 _ slices_S17x8192_o12_0_S1x8192 _ shapeCasts_S1x128x8192_S128x8192 shapeCasts_S128x8192_S128x8192 broadcasts_S1x8192_S128x8192 rfl inb_S2112x8192_S128x8192_1536_0 y
      (v4242_apply c arg13 harg13 x13 fh0 y),
    List.forall_mem_cons.2 ⟨fun y => wpiece 11 128 1408 (by decide) (by decide) fh0 _ slices_S17x8192_o11_0_S1x8192 _ shapeCasts_S1x128x8192_S128x8192 shapeCasts_S128x8192_S128x8192 broadcasts_S1x8192_S128x8192 rfl inb_S2112x8192_S128x8192_1408_0 y
      (v4222_apply c arg13 harg13 x13 fh0 y),
    List.forall_mem_cons.2 ⟨fun y => wpiece 10 128 1280 (by decide) (by decide) fh0 _ slices_S17x8192_o10_0_S1x8192 _ shapeCasts_S1x128x8192_S128x8192 shapeCasts_S128x8192_S128x8192 broadcasts_S1x8192_S128x8192 rfl inb_S2112x8192_S128x8192_1280_0 y
      (v4202_apply c arg13 harg13 x13 fh0 y),
    List.forall_mem_cons.2 ⟨fun y => wpiece 9 128 1152 (by decide) (by decide) fh0 _ slices_S17x8192_o9_0_S1x8192 _ shapeCasts_S1x128x8192_S128x8192 shapeCasts_S128x8192_S128x8192 broadcasts_S1x8192_S128x8192 rfl inb_S2112x8192_S128x8192_1152_0 y
      (v4182_apply c arg13 harg13 x13 fh0 y),
    List.forall_mem_cons.2 ⟨fun y => wpiece 8 128 1024 (by decide) (by decide) fh0 _ slices_S17x8192_o8_0_S1x8192 _ shapeCasts_S1x128x8192_S128x8192 shapeCasts_S128x8192_S128x8192 broadcasts_S1x8192_S128x8192 rfl inb_S2112x8192_S128x8192_1024_0 y
      (v4162_apply c arg13 harg13 x13 fh0 y),
    List.forall_mem_cons.2 ⟨fun y => wpiece 7 128 896 (by decide) (by decide) fh0 _ slices_S17x8192_o7_0_S1x8192 _ shapeCasts_S1x128x8192_S128x8192 shapeCasts_S128x8192_S128x8192 broadcasts_S1x8192_S128x8192 rfl inb_S2112x8192_S128x8192_896_0 y
      (v4142_apply c arg13 harg13 x13 fh0 y),
    List.forall_mem_cons.2 ⟨fun y => wpiece 6 128 768 (by decide) (by decide) fh0 _ slices_S17x8192_o6_0_S1x8192 _ shapeCasts_S1x128x8192_S128x8192 shapeCasts_S128x8192_S128x8192 broadcasts_S1x8192_S128x8192 rfl inb_S2112x8192_S128x8192_768_0 y
      (v4122_apply c arg13 harg13 x13 fh0 y),
    List.forall_mem_cons.2 ⟨fun y => wpiece 5 128 640 (by decide) (by decide) fh0 _ slices_S17x8192_o5_0_S1x8192 _ shapeCasts_S1x128x8192_S128x8192 shapeCasts_S128x8192_S128x8192 broadcasts_S1x8192_S128x8192 rfl inb_S2112x8192_S128x8192_640_0 y
      (v4102_apply c arg13 harg13 x13 fh0 y),
    List.forall_mem_cons.2 ⟨fun y => wpiece 4 128 512 (by decide) (by decide) fh0 _ slices_S17x8192_o4_0_S1x8192 _ shapeCasts_S1x128x8192_S128x8192 shapeCasts_S128x8192_S128x8192 broadcasts_S1x8192_S128x8192 rfl inb_S2112x8192_S128x8192_512_0 y
      (v4082_apply c arg13 harg13 x13 fh0 y),
    List.forall_mem_cons.2 ⟨fun y => wpiece 3 128 384 (by decide) (by decide) fh0 _ slices_S17x8192_o3_0_S1x8192 _ shapeCasts_S1x128x8192_S128x8192 shapeCasts_S128x8192_S128x8192 broadcasts_S1x8192_S128x8192 rfl inb_S2112x8192_S128x8192_384_0 y
      (v4062_apply c arg13 harg13 x13 fh0 y),
    List.forall_mem_cons.2 ⟨fun y => wpiece 2 128 256 (by decide) (by decide) fh0 _ slices_S17x8192_o2_0_S1x8192 _ shapeCasts_S1x128x8192_S128x8192 shapeCasts_S128x8192_S128x8192 broadcasts_S1x8192_S128x8192 rfl inb_S2112x8192_S128x8192_256_0 y
      (v4042_apply c arg13 harg13 x13 fh0 y),
    List.forall_mem_cons.2 ⟨fun y => wpiece 1 128 128 (by decide) (by decide) fh0 _ slices_S17x8192_o1_0_S1x8192 _ shapeCasts_S1x128x8192_S128x8192 shapeCasts_S128x8192_S128x8192 broadcasts_S1x8192_S128x8192 rfl inb_S2112x8192_S128x8192_128_0 y
      (v4022_apply c arg13 harg13 x13 fh0 y),
    List.forall_mem_cons.2 ⟨fun y => wpiece 0 128 0 (by decide) (by decide) fh0 _ slices_S17x8192_o0_0_S1x8192 _ shapeCasts_S1x128x8192_S128x8192 shapeCasts_S128x8192_S128x8192 broadcasts_S1x8192_S128x8192 rfl inb_S2112x8192_S128x8192_0_0 y
      (v4002_apply c arg13 harg13 x13 fh0 y),
    fun p hp => absurd hp List.not_mem_nil⟩⟩⟩⟩⟩⟩⟩⟩⟩⟩⟩⟩⟩⟩⟩⟩⟩
  rwa [load_ws] at h

theorem weights_cover_A (c : Dev nD) (arg3 : Memref sig .tc .vmem S17x64 .f32) (harg3 : arg3.IsWhole) (arg11 : Memref sig .tc .vmem S2112x8192 .bf16) (arg13 : Memref sig .tc .vmem S2x128x8192 .fp8e4m3) (harg13 : arg13.IsWhole) (x1 : Vec F S17x64 .f32) (x13 : Vec F S2x128x8192 .fp8e4m3) (fh0 : HbBuf0 (F := F) c hbM0_0) :
    ∀ y : S2112x8192.Idx, ∃ p ∈ kernelRun0_A.sl.HS0_17 c arg3 harg3 arg13 harg13 x1 x13 fh0, y ∈ p.1.set :=
  View.cover_of_tiledBy _ ![64, 8192] (by sl_kernel_rfl)

/-- The load of the dequantised weights reads them. -/
theorem load_weights_A (c : Dev nD) (arg3 : Memref sig .tc .vmem S17x64 .f32) (harg3 : arg3.IsWhole) (arg11 : Memref sig .tc .vmem S2112x8192 .bf16) (arg13 : Memref sig .tc .vmem S2x128x8192 .fp8e4m3) (harg13 : arg13.IsWhole) (x1 : Vec F S17x64 .f32) (x13 : Vec F S2x128x8192 .fp8e4m3) (fh0 : HbBuf0 (F := F) c hbM0_0) :
    kernelRun0_A.sl.v3911 c arg3 harg3 arg11 arg13 harg13 x1 x13 fh0 = wdeqB fh0 x1 := by
  unfold kernelRun0_A.sl.v3911
  rw [View.readCov_eq_canon _ _ _ (fun j => weights_cover_A c arg3 harg3 arg11 arg13 harg13 x1 x13 fh0 _)]
  funext j
  rw [View.canon_apply_of_pieces (wdeqB fh0 x1) _ (weights_pieces_A c arg3 harg3 arg11 arg13 harg13 x1 x13 fh0) _ (weights_cover_A c arg3 harg3 arg11 arg13 harg13 x1 x13 fh0 _)]
  exact congrArg (wdeqB fh0 x1) (whole_idx _ _ j)

end Cert.KernelIdeal.Hand

end
-- ==== Proof.TripleA.lean ====
/- The triple of the body, each buffer it leaves given in closed form. -/
module

public import proofs.«01_k».proof.Proof.Closed
public import proofs.«01_k».proof.Proof.PiecesA
public import proofs.«01_k».proof.Proof.WeightsA
public import proofs.«01_k».proof.Proof.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem out_A_4  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) (f : arg6.view.ty.Contents (Elt F)) :
    arg6.view.read (Elt F) (arg6.view.writes (Elt F) f (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).1) = (qB x0 (wdeqB fh0 x1) x2) := by
  refine (read_one arg6.view f _ _ _).trans ?_
  exact congr3 k0_pay513 (load_deq_A c arg1 harg1 arg12 x0) (load_weights_A c arg3 harg3 arg11 arg13 harg13 x1 x13 fh0) (load_whole harg4 x2 inb_S1x1536_S1x1536_0_0)

set_option maxHeartbeats 4000000 in
theorem out_A_5  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) (f : arg7.view.ty.Contents (Elt F)) :
    arg7.view.read (Elt F) (arg7.view.writes (Elt F) f (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.1) = (kvB x0 (wdeqB fh0 x1) x3) := by
  refine (read_one arg7.view f _ _ _).trans ?_
  exact congr3 k0_pay514 (load_deq_A c arg1 harg1 arg12 x0) (load_weights_A c arg3 harg3 arg11 arg13 harg13 x1 x13 fh0) (load_whole harg5 x3 inb_S1x512_S1x512_0_0)

set_option maxHeartbeats 4000000 in
theorem out_A_6  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) (f : arg8.view.ty.Contents (Elt F)) :
    arg8.view.read (Elt F) (arg8.view.writes (Elt F) f (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.2.1) = (peB x0 (wdeqB fh0 x1)) := by
  refine (read_one arg8.view f _ _ _).trans ?_
  exact congr3 (fun a b (_ : Unit) => k0_pay515 a b) (load_deq_A c arg1 harg1 arg12 x0) (load_weights_A c arg3 harg3 arg11 arg13 harg13 x1 x13 fh0) (rfl : () = ())

set_option maxHeartbeats 4000000 in
theorem out_A_7  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) (f : arg9.view.ty.Contents (Elt F)) :
    arg9.view.read (Elt F) (arg9.view.writes (Elt F) f (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.2.2.1) = (codesB x0) := by
  funext y
  refine View.read_writes_apply_of_pieces (v := arg9.view) (f := f) (codesB x0) _ (codes_pieces_A c i arg1 harg1 arg3 harg3 arg4 harg4 arg5 harg5 arg6 harg6 arg7 harg7 arg8 harg8 arg9 harg9 arg10 harg10 arg11 harg11 arg12 harg12 arg13 harg13 hc0 x0 x1 x2 x3 x13 fh0) y ?_
  exact (show ∀ y : S256x8192.Idx, ∃ p ∈ (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.2.2.1, y ∈ p.1.set from View.cover_of_tiledL _ S256x128.size (by sl_kernel_rfl)) y

set_option maxHeartbeats 4000000 in
theorem out_A_8  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) (f : arg10.view.ty.Contents (Elt F)) :
    arg10.view.read (Elt F) (arg10.view.writes (Elt F) f (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.2.2.2.1) = (scalesB x0) := by
  refine (read_one arg10.view f _ _ _).trans ?_
  exact scales_pay_A c arg1 harg1 x0

set_option maxHeartbeats 4000000 in
theorem out_A_9  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (x13 : Vec F S2x128x8192 .fp8e4m3) (fh0 : HbBuf0 (F := F) c hbM0_0) (f : arg11.view.ty.Contents (Elt F)) :
    arg11.view.read (Elt F) (arg11.view.writes (Elt F) f (kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.2.2.2.2.1) = (wdeqB fh0 x1) := by
  funext y
  exact View.read_writes_apply_of_pieces (v := arg11.view) (f := f) (wdeqB fh0 x1) _ (weights_pieces_A c arg3 harg3 arg11 arg13 harg13 x1 x13 fh0) y (weights_cover_A c arg3 harg3 arg11 arg13 harg13 x1 x13 fh0 y)

/-- The body's triple at these points, each buffer's contents in closed form. -/
theorem triple_A  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : cond0_0 i)
    (x0 : Vec F S256x8192 .bf16) (x1 : Vec F S17x64 .f32) (x2 : Vec F S1x1536 .bf16) (x3 : Vec F S1x512 .bf16) (fh0 : HbBuf0 (F := F) c hbM0_0) (W : Waits sig Unit) (K : PUnit → sProp 𝕄) :
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare (qB x0 (wdeqB fh0 x1) x2) ∗ owns (c : Thread nD τ) arg7 fullShare (kvB x0 (wdeqB fh0 x1) x3) ∗ owns (c : Thread nD τ) arg8 fullShare (peB x0 (wdeqB fh0 x1)) ∗ owns (c : Thread nD τ) arg9 fullShare (codesB x0) ∗ owns (c : Thread nD τ) arg10 fullShare (scalesB x0) ∗ owns (c : Thread nD τ) arg11 fullShare (wdeqB fh0 x1) ∗ (∃ d, owns (c : Thread nD τ) arg12 fullShare d) ∗ (∃ d, owns (c : Thread nD τ) arg13 fullShare d) ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0__body i arg1 harg1 (Memref.whole main_arg1) (Memref.isWhole_whole _) arg3 harg3 arg4 harg4 arg5 harg5 arg6 harg6 arg7 harg7 arg8 harg8 arg9 harg9 arg10 harg10 arg11 harg11 arg12 harg12 arg13 harg13 cc0_scratch3) K := by
    iintro ⟨H0, H1, H2, H3, H4, H5, H6, H7, H8, HS0, HS1, ⟨%x13, HS2⟩, Hq0, Hq1, Hh0, HW, Hk⟩
    iapply ((kernelRun0_A c i arg1 harg1 arg3 harg3 arg4 harg4 arg5 harg5 arg6 harg6 arg7 harg7 arg8 harg8 arg9 harg9 arg10 harg10 arg11 harg11 arg12 harg12 arg13 harg13 hc0 x0 x1 x2 x3 x13 fh0).2.2.2.2.2.2.2 W K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [HW]; · iexact HW
    iintro ⟨H0, H1, H2, H3, ⟨%e4, H4⟩, ⟨%e5, H5⟩, ⟨%e6, H6⟩, ⟨%e7, H7⟩, ⟨%e8, H8⟩, ⟨%es0, HS0⟩, ⟨%fT1, HS1⟩, HS2, Hq0, Hq1, Hh0, HW⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact out_A_4 _ _ _ _ _ _ _ _ _ _ _ _ _ _ _ _ _ _ _ _ _ _ _ _ _ _ _ _ _ _ _ _ _ _
    isplitl [H5]
    · unfold owns; iexists _; isplitr
      swap; · iexact H5
      ipureintro; exact out_A_5 _ _ _ _ _ _ _ _ _ _ _ _ _ _ _ _ _ _ _ _ _ _ _ _ _ _ _ _ _ _ _ _ _ _
    isplitl [H6]
    · unfold owns; iexists _; isplitr
      swap; · iexact H6
      ipureintro; exact out_A_6 _ _ _ _ _ _ _ _ _ _ _ _ _ _ _ _ _ _ _ _ _ _ _ _ _ _ _ _ _ _ _ _ _ _
    isplitl [H7]
    · unfold owns; iexists _; isplitr
      swap; · iexact H7
      ipureintro; exact out_A_7 _ _ _ _ _ _ _ _ _ _ _ _ _ _ _ _ _ _ _ _ _ _ _ _ _ _ _ _ _ _ _ _ _ _
    isplitl [H8]
    · unfold owns; iexists _; isplitr
      swap; · iexact H8
      ipureintro; exact out_A_8 _ _ _ _ _ _ _ _ _ _ _ _ _ _ _ _ _ _ _ _ _ _ _ _ _ _ _ _ _ _ _ _ _ _
    isplitl [HS0]
    · unfold owns; iexists _; isplitr
      swap; · iexact HS0
      ipureintro; exact out_A_9 _ _ _ _ _ _ _ _ _ _ _ _ _ _ _ _ _ _ _ _ _ _ _ _ _ _ _ _ _ _ _ _ _ _
    isplitl [HS1]
    · iexists _; unfold owns; iexists _; isplitr
      swap; · iexact HS1
      ipureintro; rfl
    isplitl [HS2]; · iexact HS2
    isplitl [Hq0]; · iexact Hq0
    isplitl [Hq1]; · iexact Hq1
    isplitl [Hh0]; · iexact Hh0
    iexact HW

end Cert.KernelIdeal.Hand

end
-- ==== Proof.RunB.lean ====
module

public import proofs.«01_k».proof.Proof.Kit

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2948000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) :
    Σ' (L4 : List (View.Piece (Elt F) S256x1536 .bf16)), Σ' (L5 : List (View.Piece (Elt F) S256x512 .bf16)), Σ' (L6 : List (View.Piece (Elt F) S256x64 .bf16)), Σ' (L7 : List (View.Piece (Elt F) S256x8192 .fp8e4m3)), Σ' (L8 : List (View.Piece (Elt F) S256x64 .f32)), Σ' (LS0 : List (View.Piece (Elt F) S2112x8192 .bf16)), Σ' (LT1 : List (View.Piece (Elt F) S256x8192 .bf16)), { LT2 : List (View.Piece (Elt F) S256x8192 .fp8e4m3) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0 ∗ (∃ f, arg12.view.loc (c : Thread nD τ) ↦[arg12.view.set]{fullShare} arg12.view.writes (Elt F) f LT1) ∗ (∃ d, owns (c : Thread nD τ) arg13 fullShare d) ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0__body i arg1 harg1 (Memref.whole main_arg1) (Memref.isWhole_whole _) arg3 harg3 arg4 harg4 arg5 harg5 arg6 harg6 arg7 harg7 arg8 harg8 arg9 harg9 arg10 harg10 arg11 harg11 arg12 harg12 arg13 harg13 cc0_scratch3) K } := by
  refine ⟨?_, ?_, ?_, ?_, ?_, [], ?_, [], fun W K => ?run⟩
  case run =>
    simp only [cc0__body_eq_skeleton]; unfold cc0__body_skel
    simp only [k0_part106_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hq0, Hq1, Hh0, HW, Hk⟩
    obtain rfl := harg1.eq_unread hf0; obtain rfl := harg3.eq_unread hf1; obtain rfl := harg4.eq_unread hf2; obtain rfl := harg5.eq_unread hf3; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]
    · iexists _; isplitr; · ipureintro; exact harg11.read_unread _
      iexact HS0
    isplitl [HS1]; · iexists _; iexact HS1
    isplitl [HS2]
    · iexists _, _; isplitr; swap; · iexact HS2
      ipureintro; rfl
    isplitl [Hq0]; · iexact Hq0
    isplitl [Hq1]; · iexact Hq1
    isplitl [Hh0]; · iexact Hh0
    iexists _; iexact HW

end Cert.KernelIdeal.Hand

end
-- ==== Proof.PiecesB.lean ====
/- What the pieces the run of the body leaves hold, each as a part of the closed form. -/
module

public import proofs.«01_k».proof.Proof.Closed
public import proofs.«01_k».proof.Proof.RunB

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pieces of the run, at points where the weights are already in place -/

set_option maxHeartbeats 4000000 in
theorem codes_pieces_B  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) : ∀ p ∈ (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.2.1, ∀ y : p.1.shape.Idx, p.2 y = codesB x0 (p.1.emb y) := by
  unfold kernelRun0_B
  dsimp only
  exact List.forall_mem_cons.2 ⟨fun y => codes_piece harg1 x0 63 (by decide) inb_S256x8192_S256x128_0_8064 y,
    List.forall_mem_cons.2 ⟨fun y => codes_piece harg1 x0 62 (by decide) inb_S256x8192_S256x128_0_7936 y,
    List.forall_mem_cons.2 ⟨fun y => codes_piece harg1 x0 61 (by decide) inb_S256x8192_S256x128_0_7808 y,
    List.forall_mem_cons.2 ⟨fun y => codes_piece harg1 x0 60 (by decide) inb_S256x8192_S256x128_0_7680 y,
    List.forall_mem_cons.2 ⟨fun y => codes_piece harg1 x0 59 (by decide) inb_S256x8192_S256x128_0_7552 y,
    List.forall_mem_cons.2 ⟨fun y => codes_piece harg1 x0 58 (by decide) inb_S256x8192_S256x128_0_7424 y,
    List.forall_mem_cons.2 ⟨fun y => codes_piece harg1 x0 57 (by decide) inb_S256x8192_S256x128_0_7296 y,
    List.forall_mem_cons.2 ⟨fun y => codes_piece harg1 x0 56 (by decide) inb_S256x8192_S256x128_0_7168 y,
    List.forall_mem_cons.2 ⟨fun y => codes_piece harg1 x0 55 (by decide) inb_S256x8192_S256x128_0_7040 y,
    List.forall_mem_cons.2 ⟨fun y => codes_piece harg1 x0 54 (by decide) inb_S256x8192_S256x128_0_6912 y,
    List.forall_mem_cons.2 ⟨fun y => codes_piece harg1 x0 53 (by decide) inb_S256x8192_S256x128_0_6784 y,
    List.forall_mem_cons.2 ⟨fun y => codes_piece harg1 x0 52 (by decide) inb_S256x8192_S256x128_0_6656 y,
    List.forall_mem_cons.2 ⟨fun y => codes_piece harg1 x0 51 (by decide) inb_S256x8192_S256x128_0_6528 y,
    List.forall_mem_cons.2 ⟨fun y => codes_piece harg1 x0 50 (by decide) inb_S256x8192_S256x128_0_6400 y,
    List.forall_mem_cons.2 ⟨fun y => codes_piece harg1 x0 49 (by decide) inb_S256x8192_S256x128_0_6272 y,
    List.forall_mem_cons.2 ⟨fun y => codes_piece harg1 x0 48 (by decide) inb_S256x8192_S256x128_0_6144 y,
    List.forall_mem_cons.2 ⟨fun y => codes_piece harg1 x0 47 (by decide) inb_S256x8192_S256x128_0_6016 y,
    List.forall_mem_cons.2 ⟨fun y => codes_piece harg1 x0 46 (by decide) inb_S256x8192_S256x128_0_5888 y,
    List.forall_mem_cons.2 ⟨fun y => codes_piece harg1 x0 45 (by decide) inb_S256x8192_S256x128_0_5760 y,
    List.forall_mem_cons.2 ⟨fun y => codes_piece harg1 x0 44 (by decide) inb_S256x8192_S256x128_0_5632 y,
    List.forall_mem_cons.2 ⟨fun y => codes_piece harg1 x0 43 (by decide) inb_S256x8192_S256x128_0_5504 y,
    List.forall_mem_cons.2 ⟨fun y => codes_piece harg1 x0 42 (by decide) inb_S256x8192_S256x128_0_5376 y,
    List.forall_mem_cons.2 ⟨fun y => codes_piece harg1 x0 41 (by decide) inb_S256x8192_S256x128_0_5248 y,
    List.forall_mem_cons.2 ⟨fun y => codes_piece harg1 x0 40 (by decide) inb_S256x8192_S256x128_0_5120 y,
    List.forall_mem_cons.2 ⟨fun y => codes_piece harg1 x0 39 (by decide) inb_S256x8192_S256x128_0_4992 y,
    List.forall_mem_cons.2 ⟨fun y => codes_piece harg1 x0 38 (by decide) inb_S256x8192_S256x128_0_4864 y,
    List.forall_mem_cons.2 ⟨fun y => codes_piece harg1 x0 37 (by decide) inb_S256x8192_S256x128_0_4736 y,
    List.forall_mem_cons.2 ⟨fun y => codes_piece harg1 x0 36 (by decide) inb_S256x8192_S256x128_0_4608 y,
    List.forall_mem_cons.2 ⟨fun y => codes_piece harg1 x0 35 (by decide) inb_S256x8192_S256x128_0_4480 y,
    List.forall_mem_cons.2 ⟨fun y => codes_piece harg1 x0 34 (by decide) inb_S256x8192_S256x128_0_4352 y,
    List.forall_mem_cons.2 ⟨fun y => codes_piece harg1 x0 33 (by decide) inb_S256x8192_S256x128_0_4224 y,
    List.forall_mem_cons.2 ⟨fun y => codes_piece harg1 x0 32 (by decide) inb_S256x8192_S256x128_0_4096 y,
    List.forall_mem_cons.2 ⟨fun y => codes_piece harg1 x0 31 (by decide) inb_S256x8192_S256x128_0_3968 y,
    List.forall_mem_cons.2 ⟨fun y => codes_piece harg1 x0 30 (by decide) inb_S256x8192_S256x128_0_3840 y,
    List.forall_mem_cons.2 ⟨fun y => codes_piece harg1 x0 29 (by decide) inb_S256x8192_S256x128_0_3712 y,
    List.forall_mem_cons.2 ⟨fun y => codes_piece harg1 x0 28 (by decide) inb_S256x8192_S256x128_0_3584 y,
    List.forall_mem_cons.2 ⟨fun y => codes_piece harg1 x0 27 (by decide) inb_S256x8192_S256x128_0_3456 y,
    List.forall_mem_cons.2 ⟨fun y => codes_piece harg1 x0 26 (by decide) inb_S256x8192_S256x128_0_3328 y,
    List.forall_mem_cons.2 ⟨fun y => codes_piece harg1 x0 25 (by decide) inb_S256x8192_S256x128_0_3200 y,
    List.forall_mem_cons.2 ⟨fun y => codes_piece harg1 x0 24 (by decide) inb_S256x8192_S256x128_0_3072 y,
    List.forall_mem_cons.2 ⟨fun y => codes_piece harg1 x0 23 (by decide) inb_S256x8192_S256x128_0_2944 y,
    List.forall_mem_cons.2 ⟨fun y => codes_piece harg1 x0 22 (by decide) inb_S256x8192_S256x128_0_2816 y,
    List.forall_mem_cons.2 ⟨fun y => codes_piece harg1 x0 21 (by decide) inb_S256x8192_S256x128_0_2688 y,
    List.forall_mem_cons.2 ⟨fun y => codes_piece harg1 x0 20 (by decide) inb_S256x8192_S256x128_0_2560 y,
    List.forall_mem_cons.2 ⟨fun y => codes_piece harg1 x0 19 (by decide) inb_S256x8192_S256x128_0_2432 y,
    List.forall_mem_cons.2 ⟨fun y => codes_piece harg1 x0 18 (by decide) inb_S256x8192_S256x128_0_2304 y,
    List.forall_mem_cons.2 ⟨fun y => codes_piece harg1 x0 17 (by decide) inb_S256x8192_S256x128_0_2176 y,
    List.forall_mem_cons.2 ⟨fun y => codes_piece harg1 x0 16 (by decide) inb_S256x8192_S256x128_0_2048 y,
    List.forall_mem_cons.2 ⟨fun y => codes_piece harg1 x0 15 (by decide) inb_S256x8192_S256x128_0_1920 y,
    List.forall_mem_cons.2 ⟨fun y => codes_piece harg1 x0 14 (by decide) inb_S256x8192_S256x128_0_1792 y,
    List.forall_mem_cons.2 ⟨fun y => codes_piece harg1 x0 13 (by decide) inb_S256x8192_S256x128_0_1664 y,
    List.forall_mem_cons.2 ⟨fun y => codes_piece harg1 x0 12 (by decide) inb_S256x8192_S256x128_0_1536 y,
    List.forall_mem_cons.2 ⟨fun y => codes_piece harg1 x0 11 (by decide) inb_S256x8192_S256x128_0_1408 y,
    List.forall_mem_cons.2 ⟨fun y => codes_piece harg1 x0 10 (by decide) inb_S256x8192_S256x128_0_1280 y,
    List.forall_mem_cons.2 ⟨fun y => codes_piece harg1 x0 9 (by decide) inb_S256x8192_S256x128_0_1152 y,
    List.forall_mem_cons.2 ⟨fun y => codes_piece harg1 x0 8 (by decide) inb_S256x8192_S256x128_0_1024 y,
    List.forall_mem_cons.2 ⟨fun y => codes_piece harg1 x0 7 (by decide) inb_S256x8192_S256x128_0_896 y,
    List.forall_mem_cons.2 ⟨fun y => codes_piece harg1 x0 6 (by decide) inb_S256x8192_S256x128_0_768 y,
    List.forall_mem_cons.2 ⟨fun y => codes_piece harg1 x0 5 (by decide) inb_S256x8192_S256x128_0_640 y,
    List.forall_mem_cons.2 ⟨fun y => codes_piece harg1 x0 4 (by decide) inb_S256x8192_S256x128_0_512 y,
    List.forall_mem_cons.2 ⟨fun y => codes_piece harg1 x0 3 (by decide) inb_S256x8192_S256x128_0_384 y,
    List.forall_mem_cons.2 ⟨fun y => codes_piece harg1 x0 2 (by decide) inb_S256x8192_S256x128_0_256 y,
    List.forall_mem_cons.2 ⟨fun y => codes_piece harg1 x0 1 (by decide) inb_S256x8192_S256x128_0_128 y,
    List.forall_mem_cons.2 ⟨fun y => codes_piece harg1 x0 0 (by decide) inb_S256x8192_S256x128_0_0 y,
    fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

set_option maxHeartbeats 4000000 in
theorem deq_pieces_B (c : Dev nD) (arg1 : Memref sig .tc .vmem S256x8192 .bf16) (harg1 : arg1.IsWhole) (x0 : Vec F S256x8192 .bf16) :
    ∀ p ∈ kernelRun0_B.sl.HS1_64 c arg1 harg1 x0, ∀ y : p.1.shape.Idx, p.2 y = deqB x0 (p.1.emb y) := by
  unfold kernelRun0_B.sl.HS1_64
  exact List.forall_mem_cons.2 ⟨fun y => deq_piece harg1 x0 63 (by decide) inb_S256x8192_S256x128_0_8064 y,
    List.forall_mem_cons.2 ⟨fun y => deq_piece harg1 x0 62 (by decide) inb_S256x8192_S256x128_0_7936 y,
    List.forall_mem_cons.2 ⟨fun y => deq_piece harg1 x0 61 (by decide) inb_S256x8192_S256x128_0_7808 y,
    List.forall_mem_cons.2 ⟨fun y => deq_piece harg1 x0 60 (by decide) inb_S256x8192_S256x128_0_7680 y,
    List.forall_mem_cons.2 ⟨fun y => deq_piece harg1 x0 59 (by decide) inb_S256x8192_S256x128_0_7552 y,
    List.forall_mem_cons.2 ⟨fun y => deq_piece harg1 x0 58 (by decide) inb_S256x8192_S256x128_0_7424 y,
    List.forall_mem_cons.2 ⟨fun y => deq_piece harg1 x0 57 (by decide) inb_S256x8192_S256x128_0_7296 y,
    List.forall_mem_cons.2 ⟨fun y => deq_piece harg1 x0 56 (by decide) inb_S256x8192_S256x128_0_7168 y,
    List.forall_mem_cons.2 ⟨fun y => deq_piece harg1 x0 55 (by decide) inb_S256x8192_S256x128_0_7040 y,
    List.forall_mem_cons.2 ⟨fun y => deq_piece harg1 x0 54 (by decide) inb_S256x8192_S256x128_0_6912 y,
    List.forall_mem_cons.2 ⟨fun y => deq_piece harg1 x0 53 (by decide) inb_S256x8192_S256x128_0_6784 y,
    List.forall_mem_cons.2 ⟨fun y => deq_piece harg1 x0 52 (by decide) inb_S256x8192_S256x128_0_6656 y,
    List.forall_mem_cons.2 ⟨fun y => deq_piece harg1 x0 51 (by decide) inb_S256x8192_S256x128_0_6528 y,
    List.forall_mem_cons.2 ⟨fun y => deq_piece harg1 x0 50 (by decide) inb_S256x8192_S256x128_0_6400 y,
    List.forall_mem_cons.2 ⟨fun y => deq_piece harg1 x0 49 (by decide) inb_S256x8192_S256x128_0_6272 y,
    List.forall_mem_cons.2 ⟨fun y => deq_piece harg1 x0 48 (by decide) inb_S256x8192_S256x128_0_6144 y,
    List.forall_mem_cons.2 ⟨fun y => deq_piece harg1 x0 47 (by decide) inb_S256x8192_S256x128_0_6016 y,
    List.forall_mem_cons.2 ⟨fun y => deq_piece harg1 x0 46 (by decide) inb_S256x8192_S256x128_0_5888 y,
    List.forall_mem_cons.2 ⟨fun y => deq_piece harg1 x0 45 (by decide) inb_S256x8192_S256x128_0_5760 y,
    List.forall_mem_cons.2 ⟨fun y => deq_piece harg1 x0 44 (by decide) inb_S256x8192_S256x128_0_5632 y,
    List.forall_mem_cons.2 ⟨fun y => deq_piece harg1 x0 43 (by decide) inb_S256x8192_S256x128_0_5504 y,
    List.forall_mem_cons.2 ⟨fun y => deq_piece harg1 x0 42 (by decide) inb_S256x8192_S256x128_0_5376 y,
    List.forall_mem_cons.2 ⟨fun y => deq_piece harg1 x0 41 (by decide) inb_S256x8192_S256x128_0_5248 y,
    List.forall_mem_cons.2 ⟨fun y => deq_piece harg1 x0 40 (by decide) inb_S256x8192_S256x128_0_5120 y,
    List.forall_mem_cons.2 ⟨fun y => deq_piece harg1 x0 39 (by decide) inb_S256x8192_S256x128_0_4992 y,
    List.forall_mem_cons.2 ⟨fun y => deq_piece harg1 x0 38 (by decide) inb_S256x8192_S256x128_0_4864 y,
    List.forall_mem_cons.2 ⟨fun y => deq_piece harg1 x0 37 (by decide) inb_S256x8192_S256x128_0_4736 y,
    List.forall_mem_cons.2 ⟨fun y => deq_piece harg1 x0 36 (by decide) inb_S256x8192_S256x128_0_4608 y,
    List.forall_mem_cons.2 ⟨fun y => deq_piece harg1 x0 35 (by decide) inb_S256x8192_S256x128_0_4480 y,
    List.forall_mem_cons.2 ⟨fun y => deq_piece harg1 x0 34 (by decide) inb_S256x8192_S256x128_0_4352 y,
    List.forall_mem_cons.2 ⟨fun y => deq_piece harg1 x0 33 (by decide) inb_S256x8192_S256x128_0_4224 y,
    List.forall_mem_cons.2 ⟨fun y => deq_piece harg1 x0 32 (by decide) inb_S256x8192_S256x128_0_4096 y,
    List.forall_mem_cons.2 ⟨fun y => deq_piece harg1 x0 31 (by decide) inb_S256x8192_S256x128_0_3968 y,
    List.forall_mem_cons.2 ⟨fun y => deq_piece harg1 x0 30 (by decide) inb_S256x8192_S256x128_0_3840 y,
    List.forall_mem_cons.2 ⟨fun y => deq_piece harg1 x0 29 (by decide) inb_S256x8192_S256x128_0_3712 y,
    List.forall_mem_cons.2 ⟨fun y => deq_piece harg1 x0 28 (by decide) inb_S256x8192_S256x128_0_3584 y,
    List.forall_mem_cons.2 ⟨fun y => deq_piece harg1 x0 27 (by decide) inb_S256x8192_S256x128_0_3456 y,
    List.forall_mem_cons.2 ⟨fun y => deq_piece harg1 x0 26 (by decide) inb_S256x8192_S256x128_0_3328 y,
    List.forall_mem_cons.2 ⟨fun y => deq_piece harg1 x0 25 (by decide) inb_S256x8192_S256x128_0_3200 y,
    List.forall_mem_cons.2 ⟨fun y => deq_piece harg1 x0 24 (by decide) inb_S256x8192_S256x128_0_3072 y,
    List.forall_mem_cons.2 ⟨fun y => deq_piece harg1 x0 23 (by decide) inb_S256x8192_S256x128_0_2944 y,
    List.forall_mem_cons.2 ⟨fun y => deq_piece harg1 x0 22 (by decide) inb_S256x8192_S256x128_0_2816 y,
    List.forall_mem_cons.2 ⟨fun y => deq_piece harg1 x0 21 (by decide) inb_S256x8192_S256x128_0_2688 y,
    List.forall_mem_cons.2 ⟨fun y => deq_piece harg1 x0 20 (by decide) inb_S256x8192_S256x128_0_2560 y,
    List.forall_mem_cons.2 ⟨fun y => deq_piece harg1 x0 19 (by decide) inb_S256x8192_S256x128_0_2432 y,
    List.forall_mem_cons.2 ⟨fun y => deq_piece harg1 x0 18 (by decide) inb_S256x8192_S256x128_0_2304 y,
    List.forall_mem_cons.2 ⟨fun y => deq_piece harg1 x0 17 (by decide) inb_S256x8192_S256x128_0_2176 y,
    List.forall_mem_cons.2 ⟨fun y => deq_piece harg1 x0 16 (by decide) inb_S256x8192_S256x128_0_2048 y,
    List.forall_mem_cons.2 ⟨fun y => deq_piece harg1 x0 15 (by decide) inb_S256x8192_S256x128_0_1920 y,
    List.forall_mem_cons.2 ⟨fun y => deq_piece harg1 x0 14 (by decide) inb_S256x8192_S256x128_0_1792 y,
    List.forall_mem_cons.2 ⟨fun y => deq_piece harg1 x0 13 (by decide) inb_S256x8192_S256x128_0_1664 y,
    List.forall_mem_cons.2 ⟨fun y => deq_piece harg1 x0 12 (by decide) inb_S256x8192_S256x128_0_1536 y,
    List.forall_mem_cons.2 ⟨fun y => deq_piece harg1 x0 11 (by decide) inb_S256x8192_S256x128_0_1408 y,
    List.forall_mem_cons.2 ⟨fun y => deq_piece harg1 x0 10 (by decide) inb_S256x8192_S256x128_0_1280 y,
    List.forall_mem_cons.2 ⟨fun y => deq_piece harg1 x0 9 (by decide) inb_S256x8192_S256x128_0_1152 y,
    List.forall_mem_cons.2 ⟨fun y => deq_piece harg1 x0 8 (by decide) inb_S256x8192_S256x128_0_1024 y,
    List.forall_mem_cons.2 ⟨fun y => deq_piece harg1 x0 7 (by decide) inb_S256x8192_S256x128_0_896 y,
    List.forall_mem_cons.2 ⟨fun y => deq_piece harg1 x0 6 (by decide) inb_S256x8192_S256x128_0_768 y,
    List.forall_mem_cons.2 ⟨fun y => deq_piece harg1 x0 5 (by decide) inb_S256x8192_S256x128_0_640 y,
    List.forall_mem_cons.2 ⟨fun y => deq_piece harg1 x0 4 (by decide) inb_S256x8192_S256x128_0_512 y,
    List.forall_mem_cons.2 ⟨fun y => deq_piece harg1 x0 3 (by decide) inb_S256x8192_S256x128_0_384 y,
    List.forall_mem_cons.2 ⟨fun y => deq_piece harg1 x0 2 (by decide) inb_S256x8192_S256x128_0_256 y,
    List.forall_mem_cons.2 ⟨fun y => deq_piece harg1 x0 1 (by decide) inb_S256x8192_S256x128_0_128 y,
    List.forall_mem_cons.2 ⟨fun y => deq_piece harg1 x0 0 (by decide) inb_S256x8192_S256x128_0_0 y,
    fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

theorem deq_cover_B (c : Dev nD) (arg1 : Memref sig .tc .vmem S256x8192 .bf16) (harg1 : arg1.IsWhole) (x0 : Vec F S256x8192 .bf16) :
    ∀ y : S256x8192.Idx, ∃ p ∈ kernelRun0_B.sl.HS1_64 c arg1 harg1 x0, y ∈ p.1.set :=
  View.cover_of_tiledL _ S256x128.size (by sl_kernel_rfl)

/-- The load of the dequantised activations reads the tile. -/
theorem load_deq_B (c : Dev nD) (arg1 : Memref sig .tc .vmem S256x8192 .bf16) (harg1 : arg1.IsWhole) (arg12 : Memref sig .tc .vmem S256x8192 .bf16) (x0 : Vec F S256x8192 .bf16) :
    kernelRun0_B.sl.v3910 c arg1 harg1 arg12 x0 = deqB x0 := by
  unfold kernelRun0_B.sl.v3910
  rw [View.readCov_eq_canon _ _ _ (fun j => deq_cover_B c arg1 harg1 x0 _)]
  funext j
  rw [View.canon_apply_of_pieces (deqB x0) _ (deq_pieces_B c arg1 harg1 x0) _ (deq_cover_B c arg1 harg1 x0 _)]
  exact congrArg (deqB x0) (whole_idx _ _ j)

set_option maxHeartbeats 4000000 in
theorem scales_pay_B (c : Dev nD) (arg1 : Memref sig .tc .vmem S256x8192 .bf16) (harg1 : arg1.IsWhole) (x0 : Vec F S256x8192 .bf16) :
    k0_pay511 kernelRun0_B.sl.v3 (kernelRun0_B.sl.r_248 c arg1 harg1 x0) (kernelRun0_B.sl.r_250 c arg1 harg1 x0) 0#32 = scalesB x0 :=
  scale_step harg1 x0 63 (by decide) inb_S256x8192_S256x128_0_8064 _ (scale_step harg1 x0 62 (by decide) inb_S256x8192_S256x128_0_7936 _ (scale_step harg1 x0 61 (by decide) inb_S256x8192_S256x128_0_7808 _ (scale_step harg1 x0 60 (by decide) inb_S256x8192_S256x128_0_7680 _ (scale_step harg1 x0 59 (by decide) inb_S256x8192_S256x128_0_7552 _ (scale_step harg1 x0 58 (by decide) inb_S256x8192_S256x128_0_7424 _ (scale_step harg1 x0 57 (by decide) inb_S256x8192_S256x128_0_7296 _ (scale_step harg1 x0 56 (by decide) inb_S256x8192_S256x128_0_7168 _ (scale_step harg1 x0 55 (by decide) inb_S256x8192_S256x128_0_7040 _ (scale_step harg1 x0 54 (by decide) inb_S256x8192_S256x128_0_6912 _ (scale_step harg1 x0 53 (by decide) inb_S256x8192_S256x128_0_6784 _ (scale_step harg1 x0 52 (by decide) inb_S256x8192_S256x128_0_6656 _ (scale_step harg1 x0 51 (by decide) inb_S256x8192_S256x128_0_6528 _ (scale_step harg1 x0 50 (by decide) inb_S256x8192_S256x128_0_6400 _ (scale_step harg1 x0 49 (by decide) inb_S256x8192_S256x128_0_6272 _ (scale_step harg1 x0 48 (by decide) inb_S256x8192_S256x128_0_6144 _ (scale_step harg1 x0 47 (by decide) inb_S256x8192_S256x128_0_6016 _ (scale_step harg1 x0 46 (by decide) inb_S256x8192_S256x128_0_5888 _ (scale_step harg1 x0 45 (by decide) inb_S256x8192_S256x128_0_5760 _ (scale_step harg1 x0 44 (by decide) inb_S256x8192_S256x128_0_5632 _ (scale_step harg1 x0 43 (by decide) inb_S256x8192_S256x128_0_5504 _ (scale_step harg1 x0 42 (by decide) inb_S256x8192_S256x128_0_5376 _ (scale_step harg1 x0 41 (by decide) inb_S256x8192_S256x128_0_5248 _ (scale_step harg1 x0 40 (by decide) inb_S256x8192_S256x128_0_5120 _ (scale_step harg1 x0 39 (by decide) inb_S256x8192_S256x128_0_4992 _ (scale_step harg1 x0 38 (by decide) inb_S256x8192_S256x128_0_4864 _ (scale_step harg1 x0 37 (by decide) inb_S256x8192_S256x128_0_4736 _ (scale_step harg1 x0 36 (by decide) inb_S256x8192_S256x128_0_4608 _ (scale_step harg1 x0 35 (by decide) inb_S256x8192_S256x128_0_4480 _ (scale_step harg1 x0 34 (by decide) inb_S256x8192_S256x128_0_4352 _ (scale_step harg1 x0 33 (by decide) inb_S256x8192_S256x128_0_4224 _ (scale_step harg1 x0 32 (by decide) inb_S256x8192_S256x128_0_4096 _ (scale_step harg1 x0 31 (by decide) inb_S256x8192_S256x128_0_3968 _ (scale_step harg1 x0 30 (by decide) inb_S256x8192_S256x128_0_3840 _ (scale_step harg1 x0 29 (by decide) inb_S256x8192_S256x128_0_3712 _ (scale_step harg1 x0 28 (by decide) inb_S256x8192_S256x128_0_3584 _ (scale_step harg1 x0 27 (by decide) inb_S256x8192_S256x128_0_3456 _ (scale_step harg1 x0 26 (by decide) inb_S256x8192_S256x128_0_3328 _ (scale_step harg1 x0 25 (by decide) inb_S256x8192_S256x128_0_3200 _ (scale_step harg1 x0 24 (by decide) inb_S256x8192_S256x128_0_3072 _ (scale_step harg1 x0 23 (by decide) inb_S256x8192_S256x128_0_2944 _ (scale_step harg1 x0 22 (by decide) inb_S256x8192_S256x128_0_2816 _ (scale_step harg1 x0 21 (by decide) inb_S256x8192_S256x128_0_2688 _ (scale_step harg1 x0 20 (by decide) inb_S256x8192_S256x128_0_2560 _ (scale_step harg1 x0 19 (by decide) inb_S256x8192_S256x128_0_2432 _ (scale_step harg1 x0 18 (by decide) inb_S256x8192_S256x128_0_2304 _ (scale_step harg1 x0 17 (by decide) inb_S256x8192_S256x128_0_2176 _ (scale_step harg1 x0 16 (by decide) inb_S256x8192_S256x128_0_2048 _ (scale_step harg1 x0 15 (by decide) inb_S256x8192_S256x128_0_1920 _ (scale_step harg1 x0 14 (by decide) inb_S256x8192_S256x128_0_1792 _ (scale_step harg1 x0 13 (by decide) inb_S256x8192_S256x128_0_1664 _ (scale_step harg1 x0 12 (by decide) inb_S256x8192_S256x128_0_1536 _ (scale_step harg1 x0 11 (by decide) inb_S256x8192_S256x128_0_1408 _ (scale_step harg1 x0 10 (by decide) inb_S256x8192_S256x128_0_1280 _ (scale_step harg1 x0 9 (by decide) inb_S256x8192_S256x128_0_1152 _ (scale_step harg1 x0 8 (by decide) inb_S256x8192_S256x128_0_1024 _ (scale_step harg1 x0 7 (by decide) inb_S256x8192_S256x128_0_896 _ (scale_step harg1 x0 6 (by decide) inb_S256x8192_S256x128_0_768 _ (scale_step harg1 x0 5 (by decide) inb_S256x8192_S256x128_0_640 _ (scale_step harg1 x0 4 (by decide) inb_S256x8192_S256x128_0_512 _ (scale_step harg1 x0 3 (by decide) inb_S256x8192_S256x128_0_384 _ (scale_step harg1 x0 2 (by decide) inb_S256x8192_S256x128_0_256 _ (scale_step harg1 x0 1 (by decide) inb_S256x8192_S256x128_0_128 _ (scale_step harg1 x0 0 (by decide) inb_S256x8192_S256x128_0_0 _ (rfl))))))))))))))))))))))))))))))))))))))))))))))))))))))))))))))))

end Cert.KernelIdeal.Hand

end
-- ==== Proof.TripleB.lean ====
/- The triple of the body, each buffer it leaves given in closed form. -/
module

public import proofs.«01_k».proof.Proof.Closed
public import proofs.«01_k».proof.Proof.PiecesB
public import proofs.«01_k».proof.Proof.RunB

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem out_B_4  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) (f : arg6.view.ty.Contents (Elt F)) :
    arg6.view.read (Elt F) (arg6.view.writes (Elt F) f (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).1) = (qB x0 xs0 x2) := by
  refine (read_one arg6.view f _ _ _).trans ?_
  exact congr3 k0_pay513 (load_deq_B c arg1 harg1 arg12 x0) (load_whole harg11 xs0 inb_S2112x8192_S2112x8192_0_0) (load_whole harg4 x2 inb_S1x1536_S1x1536_0_0)

set_option maxHeartbeats 4000000 in
theorem out_B_5  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) (f : arg7.view.ty.Contents (Elt F)) :
    arg7.view.read (Elt F) (arg7.view.writes (Elt F) f (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.1) = (kvB x0 xs0 x3) := by
  refine (read_one arg7.view f _ _ _).trans ?_
  exact congr3 k0_pay514 (load_deq_B c arg1 harg1 arg12 x0) (load_whole harg11 xs0 inb_S2112x8192_S2112x8192_0_0) (load_whole harg5 x3 inb_S1x512_S1x512_0_0)

set_option maxHeartbeats 4000000 in
theorem out_B_6  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) (f : arg8.view.ty.Contents (Elt F)) :
    arg8.view.read (Elt F) (arg8.view.writes (Elt F) f (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.1) = (peB x0 xs0) := by
  refine (read_one arg8.view f _ _ _).trans ?_
  exact congr3 (fun a b (_ : Unit) => k0_pay515 a b) (load_deq_B c arg1 harg1 arg12 x0) (load_whole harg11 xs0 inb_S2112x8192_S2112x8192_0_0) (rfl : () = ())

set_option maxHeartbeats 4000000 in
theorem out_B_7  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) (f : arg9.view.ty.Contents (Elt F)) :
    arg9.view.read (Elt F) (arg9.view.writes (Elt F) f (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.2.1) = (codesB x0) := by
  funext y
  refine View.read_writes_apply_of_pieces (v := arg9.view) (f := f) (codesB x0) _ (codes_pieces_B c i arg1 harg1 arg3 harg3 arg4 harg4 arg5 harg5 arg6 harg6 arg7 harg7 arg8 harg8 arg9 harg9 arg10 harg10 arg11 harg11 arg12 harg12 arg13 harg13 hc0 x0 x1 x2 x3 xs0 fh0) y ?_
  exact (show ∀ y : S256x8192.Idx, ∃ p ∈ (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.2.1, y ∈ p.1.set from View.cover_of_tiledL _ S256x128.size (by sl_kernel_rfl)) y

set_option maxHeartbeats 4000000 in
theorem out_B_8  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) (f : arg10.view.ty.Contents (Elt F)) :
    arg10.view.read (Elt F) (arg10.view.writes (Elt F) f (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.2.2.1) = (scalesB x0) := by
  refine (read_one arg10.view f _ _ _).trans ?_
  exact scales_pay_B c arg1 harg1 x0

/-- The body's triple at these points, each buffer's contents in closed form. -/
theorem triple_B  (c : Dev nD) (i : grid0.Coords) (arg1 : Memref sig .tc .vmem S256x8192 .bf16) (harg1 : arg1.IsWhole) (arg3 : Memref sig .tc .vmem S17x64 .f32) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x8192 .fp8e4m3) (harg9 : arg9.IsWhole) (arg10 : Memref sig .tc .vmem S256x64 .f32) (harg10 : arg10.IsWhole) (arg11 : Memref sig .tc .vmem S2112x8192 .bf16) (harg11 : arg11.IsWhole) (arg12 : Memref sig .tc .vmem S256x8192 .bf16) (harg12 : arg12.IsWhole) (arg13 : Memref sig .tc .vmem S2x128x8192 .fp8e4m3) (harg13 : arg13.IsWhole) (hc0 : ¬cond0_0 i)
    (x0 : Vec F S256x8192 .bf16) (x1 : Vec F S17x64 .f32) (x2 : Vec F S1x1536 .bf16) (x3 : Vec F S1x512 .bf16) (xs0 : Vec F S2112x8192 .bf16) (fh0 : HbBuf0 (F := F) c hbM0_0) (W : Waits sig Unit) (K : PUnit → sProp 𝕄) :
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare (qB x0 xs0 x2) ∗ owns (c : Thread nD τ) arg7 fullShare (kvB x0 xs0 x3) ∗ owns (c : Thread nD τ) arg8 fullShare (peB x0 xs0) ∗ owns (c : Thread nD τ) arg9 fullShare (codesB x0) ∗ owns (c : Thread nD τ) arg10 fullShare (scalesB x0) ∗ owns (c : Thread nD τ) arg11 fullShare xs0 ∗ (∃ d, owns (c : Thread nD τ) arg12 fullShare d) ∗ (∃ d, owns (c : Thread nD τ) arg13 fullShare d) ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0__body i arg1 harg1 (Memref.whole main_arg1) (Memref.isWhole_whole _) arg3 harg3 arg4 harg4 arg5 harg5 arg6 harg6 arg7 harg7 arg8 harg8 arg9 harg9 arg10 harg10 arg11 harg11 arg12 harg12 arg13 harg13 cc0_scratch3) K := by
    iintro ⟨H0, H1, H2, H3, H4, H5, H6, H7, H8, HS0, HS1, HS2, Hq0, Hq1, Hh0, HW, Hk⟩
    iapply ((kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.2.2.2.2.2.2 W K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [HW]; · iexact HW
    iintro ⟨H0, H1, H2, H3, ⟨%e4, H4⟩, ⟨%e5, H5⟩, ⟨%e6, H6⟩, ⟨%e7, H7⟩, ⟨%e8, H8⟩, HS0, ⟨%fT1, HS1⟩, HS2, Hq0, Hq1, Hh0, HW⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact out_B_4 _ _ _ _ _ _ _ _ _ _ _ _ _ _ _ _ _ _ _ _ _ _ _ _ _ _ _ _ _ _ _ _ _ _
    isplitl [H5]
    · unfold owns; iexists _; isplitr
      swap; · iexact H5
      ipureintro; exact out_B_5 _ _ _ _ _ _ _ _ _ _ _ _ _ _ _ _ _ _ _ _ _ _ _ _ _ _ _ _ _ _ _ _ _ _
    isplitl [H6]
    · unfold owns; iexists _; isplitr
      swap; · iexact H6
      ipureintro; exact out_B_6 _ _ _ _ _ _ _ _ _ _ _ _ _ _ _ _ _ _ _ _ _ _ _ _ _ _ _ _ _ _ _ _ _ _
    isplitl [H7]
    · unfold owns; iexists _; isplitr
      swap; · iexact H7
      ipureintro; exact out_B_7 _ _ _ _ _ _ _ _ _ _ _ _ _ _ _ _ _ _ _ _ _ _ _ _ _ _ _ _ _ _ _ _ _ _
    isplitl [H8]
    · unfold owns; iexists _; isplitr
      swap; · iexact H8
      ipureintro; exact out_B_8 _ _ _ _ _ _ _ _ _ _ _ _ _ _ _ _ _ _ _ _ _ _ _ _ _ _ _ _ _ _ _ _ _ _
    isplitl [HS0]; · iexact HS0
    isplitl [HS1]
    · iexists _; unfold owns; iexists _; isplitr
      swap; · iexact HS1
      ipureintro; rfl
    isplitl [HS2]; · iexact HS2
    isplitl [Hq0]; · iexact Hq0
    isplitl [Hq1]; · iexact Hq1
    isplitl [Hh0]; · iexact Hh0
    iexact HW

end Cert.KernelIdeal.Hand

end
-- ==== Proof.Run.lean ====
/- The run of the whole launch: what every buffer holds point by point, the pipeline's proof data, the body at every point, and the frame. -/
module

public import proofs.«01_k».proof.Proof.TripleA
public import proofs.«01_k».proof.Proof.TripleB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold after each point -/

/-- The dequantised weights, which the first point leaves in its scratch buffer and every later point reads there. -/
def wd0 (c : Dev nD) : Vec F S2112x8192 .bf16 := wdeqB (V m c main_arg1) (iblk m c 1 (⟨0, by decide⟩ : Fin cfg0.N))

/-- The invariant before a point: before the first one every scratch buffer holds anything; afterwards the dequantised weights are in place. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (wd0 m c) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare (wd0 m c) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg1))) := rfl

theorem PhiS_pos (c : Dev nD) (n : ℕ) (h : n ≤ cfg0.N) (hz : n ≠ 0) :
    PhiS m c n h = iprop(iprop(owns (c : Thread nD τ) scM0_0 fullShare (wd0 m c) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg1))) := by
  cases n with
  | zero => exact absurd rfl hz
  | succ n => rfl

/-! ## The pipeline's proof data -/

/-- The arrays as the launch finds them, what each buffer holds after each point, the invariant, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (qB (iblk m c 0 t) (wd0 m c) (iblk m c 2 t))
    | ⟨5, _⟩ => (kvB (iblk m c 0 t) (wd0 m c) (iblk m c 3 t))
    | ⟨6, _⟩ => (peB (iblk m c 0 t) (wd0 m c))
    | ⟨7, _⟩ => (codesB (iblk m c 0 t))
    | ⟨8, _⟩ => (scalesB (iblk m c 0 t))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (qB (iblk m c 0 t) (wd0 m c) (iblk m c 2 t)) := by dsimp only [dats]
theorem after0_5 (c : Dev nD) (t : Fin cfg0.N) : (dats m 0 c).after 5 t = (kvB (iblk m c 0 t) (wd0 m c) (iblk m c 3 t)) := by dsimp only [dats]
theorem after0_6 (c : Dev nD) (t : Fin cfg0.N) : (dats m 0 c).after 6 t = (peB (iblk m c 0 t) (wd0 m c)) := by dsimp only [dats]
theorem after0_7 (c : Dev nD) (t : Fin cfg0.N) : (dats m 0 c).after 7 t = (codesB (iblk m c 0 t)) := by dsimp only [dats]
theorem after0_8 (c : Dev nD) (t : Fin cfg0.N) : (dats m 0 c).after 8 t = (scalesB (iblk m c 0 t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: at the first one it dequantises the weights, at the others it finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      have et : wdeqB (V m c main_arg1) (iblk m c 1 t) = wd0 m c := by
        obtain rfl : t = (⟨0, by decide⟩ : Fin cfg0.N) := Fin.ext hz
        rfl
      iintro ⟨⟨⟨HS0, HS1, HS2⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [← et]
      iapply (triple_A c (grid0.coords t) _ _ _ _ _ _ _ _ _ _ _ _ _ _ _ _ _ _ _ _ _ _ _ _ ((hcond0_0 t).mpr h0) (iblk m c 0 t) (iblk m c 1 t) (iblk m c 2 t) (iblk m c 3 t) (V m c main_arg1) W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [HW]; · iexact HW
      iintro ⟨H0, H1, H2, H3, H4, H5, H6, H7, H8, HS0, HS1, HS2, Hq0, Hq1, Hh0, ⟨%W', HW'⟩⟩
      isplitl [HS0 HS1 HS2 Hg Hq0 Hq1 Hh0]
      · isplitl [HS0 HS1 HS2]
        · isplitl [HS0]
          · iexact HS0
          isplitl [HS1]
          · iexact HS1
          iexact HS2
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · iexact H4
      isplitl [H5]
      · iexact H5
      isplitl [H6]
      · iexact H6
      isplitl [H7]
      · iexact H7
      iexact H8
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      iintro ⟨⟨⟨HS0, HS1, HS2⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (triple_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (wd0 m c) (V m c main_arg1) W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [HW]; · iexact HW
      iintro ⟨H0, H1, H2, H3, H4, H5, H6, H7, H8, HS0, HS1, HS2, Hq0, Hq1, Hh0, ⟨%W', HW'⟩⟩
      isplitl [HS0 HS1 HS2 Hg Hq0 Hq1 Hh0]
      · isplitl [HS0 HS1 HS2]
        · isplitl [HS0]; · iexact HS0
          isplitl [HS1]
          · iexact HS1
          iexact HS2
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · iexact H4
      isplitl [H5]
      · iexact H5
      isplitl [H6]
      · iexact H6
      isplitl [H7]
      · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1⟩, Hh0⟩
  isplitl [HS0 HS1 HS2]
  · isplitl [HS0]
    · iexists _; iexact HS0
    isplitl [HS1]
    · iexact HS1
    iexact HS2
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, at any values:
    the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.KerFrame.lean ====
/- The kernel's frame over bit patterns: the two printings of the kernel are one program, so the run proved of one is the run of the other. -/
module

public import proofs.«01_k».proof.Defs
public import proofs.«01_k».proof.Proof.Run
public import proofs.«01_k».proof.Proof.Gen.Kernel

@[expose] public section

set_option maxRecDepth 16384

noncomputable section

namespace Cert.Proof

open Idealize.ShloMosaic Idealize.SL.Sem

set_option smartUnfolding false in
theorem sig_eq : Cert.Kernel.sig = Cert.KernelIdeal.sig := rfl

set_option smartUnfolding false in
theorem kernel_frame : Cert.quiescent_Kernel (hKernel := Cert.Kernel.Gen.facts) :=
  fun m g _ => Cert.KernelIdeal.Hand.frame (F := Bits) m g

end Cert.Proof
end
-- ==== Proof.Rows.lean ====
/- The host's reshapes of the activations, read at an index. -/
module

public import Idealize.ShloMosaic.Lib.Pointwise

@[expose] public section

set_option maxRecDepth 16384

noncomputable section

namespace Cert.Rows

open Idealize.ShloMosaic

/-- Row `r` of the 4096 rows of the activations, at column `c`. -/
def xAt {α : Type} (x : (⟨3, ![2, 2048, 8192]⟩ : Shape).Idx → α) (r : Fin 4096) (c : Fin 8192) : α :=
  x (ix3 (⟨r.val / 2048, by omega⟩ : Fin 2) (⟨r.val % 2048, by omega⟩ : Fin 2048) c)

theorem cast_rows {α : Type} (x : (⟨3, ![2, 2048, 8192]⟩ : Shape).Idx → α) (h : (⟨3, ![2, 2048, 8192]⟩ : Shape).ShapeCasts ⟨2, ![4096, 8192]⟩) (r : Fin 4096) (c : Fin 8192) :
    shapeCast (⟨2, ![4096, 8192]⟩ : Shape) x h (ix2 r c) = xAt x r c := by
  rw [Pointwise.shapeCast_apply]
  refine congrArg x ?_
  refine Shape.reshapeEquiv_eq_of_vals _ _ _ _ _ (rowMajor_val3 _ 16777216 8192 rfl rfl) (rowMajor_val2 _ 8192 rfl) ?_
  show r.val / 2048 * 16777216 + r.val % 2048 * 8192 + c.val = r.val * 8192 + c.val
  omega

theorem cast_groups {α : Type} (x : (⟨3, ![2, 2048, 8192]⟩ : Shape).Idx → α) (h : (⟨3, ![2, 2048, 8192]⟩ : Shape).ShapeCasts ⟨3, ![4096, 64, 128]⟩) (r : Fin 4096) (g : Fin 64) (k : Fin 128) :
    shapeCast (⟨3, ![4096, 64, 128]⟩ : Shape) x h (ix3 r g k) = xAt x r (⟨128 * g.val + k.val, by omega⟩ : Fin 8192) := by
  rw [Pointwise.shapeCast_apply]
  refine congrArg x ?_
  refine Shape.reshapeEquiv_eq_of_vals _ _ _ _ _ (rowMajor_val3 _ 16777216 8192 rfl rfl) (rowMajor_val3 _ 8192 128 rfl rfl) ?_
  show r.val / 2048 * 16777216 + r.val % 2048 * 8192 + (128 * g.val + k.val) = r.val * 8192 + g.val * 128 + k.val
  omega

end Cert.Rows
end
-- ==== Proof.Scale.lean ====
/- The scale of a group, from the group's largest magnitude over 448: counted on the powers of two, and as the least power of two above it. -/
module

public import Idealize.ShloMosaic.Lib.Pointwise
public import Idealize.ShloMosaic.Lib.IdealHost

@[expose] public section

set_option maxRecDepth 16384

noncomputable section

namespace Cert.Scale

open Idealize.ShloMosaic

/-- The float whose exponent field is `k`, every other bit zero. -/
def start (k : ℕ) : EReal := Ideal.ofBits .f32 (IntOp.shli .vector (BitVec.ofNat 32 k) 23#32)

theorem start_bits : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem start_zero : start 0 = 0 := by
  have h := start_bits ⟨0, by decide⟩
  unfold start Ideal.ofBits Ideal.ieee
  dsimp only at h ⊢
  rw [h.1, h.2.1, h.2.2]
  simp

theorem start_top : start 255 = ⊤ := by
  have h := start_bits ⟨255, by decide⟩
  unfold start Ideal.ofBits Ideal.ieee
  dsimp only at h ⊢
  rw [h.1, h.2.1, h.2.2]
  simp

theorem start_pow (k : ℕ) (h1 : 1 ≤ k) (h2 : k ≤ 254) : start k = (((2 : ℝ) ^ ((k : ℤ) - 127) : ℝ) : EReal) := by
  have h := start_bits ⟨k, by omega⟩
  unfold start Ideal.ofBits Ideal.ieee
  dsimp only at h ⊢
  rw [h.1, h.2.1, h.2.2]
  rw [if_neg (by norm_num; omega), if_neg (by omega), if_neg (by decide)]
  refine congrArg _ ?_
  have : ((2 : ℝ) ^ ((k : ℤ) - 127)) = 2 ^ (23 : ℕ) * (2 : ℝ) ^ ((k : ℤ) - (2 ^ (8 - 1) - 1) - (23 : ℕ)) := by
    rw [← zpow_natCast, ← zpow_add₀ (by norm_num)]
    congr 1
    norm_num
  rw [this]
  push_cast
  ring

/-- The exponent field of `v`, as the number of starts not above it, less one. -/
def field (v : EReal) : BitVec 32 :=
  IntOp.subi (FloatOps.fptosi (F := Ideal) (φ := .f32) 32 (∑ k : Fin 256, if v < start k.val then (0 : EReal) else 1)) 1#32

/-- The exponent of the scale. -/
def expo (v : EReal) : BitVec 32 :=
  Scalar.select (IntOp.cmpi .eq (field v) 0#32) (0#32) (IntOp.subi (field v) 126#32)

/-- The scale, and its reciprocal, put together from the exponent. -/
def scaleK (v : EReal) : EReal := Ideal.ofBits .f32 (IntOp.shli .vector (IntOp.addi (expo v) 127#32) 23#32)
@[inherit_doc scaleK] def invK (v : EReal) : EReal := Ideal.ofBits .f32 (IntOp.shli .vector (IntOp.subi 127#32 (expo v)) 23#32)

/-- The scale as the least power of two above `v`; one below the normal range. -/
def scaleR (v : EReal) : EReal :=
  if v < Ideal.ofBits .f32 8388608#32 then 1
  else Finset.fold min (Ideal.ofBits .f32 2139095040#32)
    (fun k : Fin 254 => if v < FloatOps.exp2 (F := Ideal) (φ := .f32) (FloatOps.sitofp (F := Ideal) .f32 (BitVec.ofNat 32 k.val) - Ideal.ofBits .f32 1123811328#32)
      then FloatOps.exp2 (F := Ideal) (φ := .f32) (FloatOps.sitofp (F := Ideal) .f32 (BitVec.ofNat 32 k.val) - Ideal.ofBits .f32 1123811328#32)
      else Ideal.ofBits .f32 2139095040#32) Finset.univ

theorem fptosi_nat (n : ℕ) (hn : n ≤ 256) : FloatOps.fptosi (F := Ideal) (φ := .f32) 32 ((n : ℝ) : EReal) = BitVec.ofNat 32 n := by
  show Ideal.fptosi 32 ((n : ℝ) : EReal) = _
  unfold Ideal.fptosi
  rw [Ideal.toIntClamped_coe, if_pos (by positivity), Int.floor_natCast]
  have : max (-((2 ^ (32 - 1) : ℕ) : ℤ)) (min (((2 ^ (32 - 1) : ℕ) : ℤ) - 1) (n : ℤ)) = (n : ℤ) := by norm_num; omega
  rw [this, BitVec.ofInt_natCast]

theorem count_eq (v : EReal) (c : Fin 256) (h : ∀ k : Fin 256, start k.val ≤ v ↔ k ≤ c) :
    (∑ k : Fin 256, if v < start k.val then (0 : EReal) else 1) = (((c.val + 1 : ℕ) : ℝ) : EReal) := by
  have : ∀ k : Fin 256, (if v < start k.val then (0 : EReal) else 1) = (((if k ≤ c then 1 else 0 : ℕ) : ℝ) : EReal) := by
    intro k
    by_cases hk : k ≤ c
    · rw [if_neg (not_lt.mpr ((h k).mpr hk)), if_pos hk]; simp
    · rw [if_pos (not_le.mp (fun h' => hk ((h k).mp h'))), if_neg hk]; simp
  simp_rw [this]
  have e : ∀ s : Finset (Fin 256), (∑ k ∈ s, (((if k ≤ c then 1 else 0 : ℕ) : ℝ) : EReal)) = (((∑ k ∈ s, if k ≤ c then 1 else 0 : ℕ) : ℝ) : EReal) := by
    intro s
    induction s using Finset.induction_on with
    | empty => simp
    | insert a s ha ih => rw [Finset.sum_insert ha, Finset.sum_insert ha, ih]; push_cast; rfl
  rw [e, Finset.sum_boole, Nat.cast_id]
  congr 3
  have : (Finset.univ.filter fun k : Fin 256 => k ≤ c) = Finset.Iic c := by ext k; simp
  rw [this, Fin.card_Iic]

theorem field_eq (v : EReal) (c : Fin 256) (h : ∀ k : Fin 256, start k.val ≤ v ↔ k ≤ c) : field v = BitVec.ofNat 32 c.val := by
  unfold field
  rw [count_eq v c h, fptosi_nat _ (by omega)]
  exact (by decide +kernel : ∀ c : Fin 256, IntOp.subi (BitVec.ofNat 32 (c.val + 1)) 1#32 = BitVec.ofNat 32 c.val) c

theorem words : ∀ c : Fin 253, IntOp.shli .vector (IntOp.addi (Scalar.select (IntOp.cmpi .eq (BitVec.ofNat 32 c.val) 0#32) (0#32) (IntOp.subi (BitVec.ofNat 32 c.val) 126#32)) 127#32) 23#32
      = IntOp.shli .vector (BitVec.ofNat 32 (if c.val = 0 then 127 else c.val + 1)) 23#32
    ∧ IntOp.shli .vector (IntOp.subi 127#32 (Scalar.select (IntOp.cmpi .eq (BitVec.ofNat 32 c.val) 0#32) (0#32) (IntOp.subi (BitVec.ofNat 32 c.val) 126#32))) 23#32
      = IntOp.shli .vector (BitVec.ofNat 32 (if c.val = 0 then 127 else 253 - c.val)) 23#32 := by decide +kernel

theorem scaleK_eq (v : EReal) (c : ℕ) (hc : c < 253) (h : ∀ k : Fin 256, start k.val ≤ v ↔ k.val ≤ c) :
    scaleK v = start (if c = 0 then 127 else c + 1) ∧ invK v = start (if c = 0 then 127 else 253 - c) := by
  have hf := field_eq v ⟨c, by omega⟩ h
  have hw := words ⟨c, hc⟩
  unfold scaleK invK expo start
  rw [hf]
  exact ⟨congrArg _ hw.1, congrArg _ hw.2⟩

theorem start_mono {a b : ℕ} (ha : 1 ≤ a) (hab : a < b) (hb : b ≤ 254) : start a < start b := by
  rw [start_pow a ha (by omega), start_pow b (by omega) hb, EReal.coe_lt_coe_iff]
  exact zpow_lt_zpow_right₀ (by norm_num) (by omega)

theorem start_lt_iff {a b : ℕ} (ha : 1 ≤ a) (ha' : a ≤ 254) (hb : 1 ≤ b) (hb' : b ≤ 254) : start a < start b ↔ a < b := by
  constructor
  · intro h
    by_contra hn
    rcases lt_or_eq_of_le (not_lt.mp hn) with h' | h'
    · exact absurd h (not_lt.mpr (start_mono hb h' ha').le)
    · rw [h'] at h; exact lt_irrefl _ h
  · exact fun h => start_mono ha h hb'

/-- Between which starts a value below `2 ^ 126` lies. -/
theorem exists_field (v : EReal) (h0 : 0 ≤ v) (h1 : v < start 253) :
    ∃ c, c < 253 ∧ (∀ k : Fin 256, start k.val ≤ v ↔ k.val ≤ c) ∧ (c = 0 ↔ v < start 1) := by
  have hlt : ∀ k, 1 ≤ k → 253 ≤ k → k ≤ 255 → v < start k := by
    intro k hk h2 h3
    rcases Nat.lt_or_ge k 255 with h | h
    · rcases Nat.eq_or_lt_of_le h2 with rfl | h'
      · exact h1
      · exact h1.trans (start_mono (by omega) h' (by omega))
    · obtain rfl : k = 255 := by omega
      rw [start_top]; exact lt_of_lt_of_le h1 le_top
  obtain ⟨c, hc⟩ : ∃ c, c = Nat.findGreatest (fun k => start k ≤ v) 252 := ⟨_, rfl⟩
  have hP : start c ≤ v := by rw [hc]; exact Nat.findGreatest_spec (P := fun k => start k ≤ v) (Nat.zero_le 252) (by rw [start_zero]; exact h0)
  have hle : c ≤ 252 := by rw [hc]; exact Nat.findGreatest_le _
  have hgt : ∀ k, c < k → k ≤ 252 → ¬ start k ≤ v := by intro k hk hk'; rw [hc] at hk; exact Nat.findGreatest_is_greatest hk hk'
  refine ⟨c, by omega, fun k => ⟨fun h => ?_, fun h => ?_⟩, ⟨fun h => ?_, fun h => ?_⟩⟩
  · by_contra hn
    have hk := k.isLt
    rcases Nat.lt_or_ge k.val 253 with h2 | h2
    · exact hgt k.val (by omega) (by omega) h
    · exact absurd h (not_le.mpr (hlt k.val (by omega) h2 (by omega)))
  · rcases Nat.eq_zero_or_pos k.val with hk | hk
    · rw [hk, start_zero]; exact h0
    · rcases Nat.eq_or_lt_of_le h with h' | h'
      · rw [h']; exact hP
      · exact (start_mono hk h' (by omega)).le.trans hP
  · exact not_le.mp (hgt 1 (by omega) (by omega))
  · by_contra hn
    rcases Nat.eq_or_lt_of_le (Nat.one_le_iff_ne_zero.mpr hn) with h' | h'
    · rw [← h'] at hP; exact absurd h (not_lt.mpr hP)
    · exact absurd h (not_lt.mpr ((start_mono le_rfl h' (by omega)).le.trans hP))

theorem power_eq (k : Fin 254) : FloatOps.exp2 (F := Ideal) (φ := .f32) (FloatOps.sitofp (F := Ideal) .f32 (BitVec.ofNat 32 k.val) - Ideal.ofBits .f32 1123811328#32) = start (k.val + 1) := by
  have e1 : Ideal.ofBits .f32 1123811328#32 = ((126 : ℝ) : EReal) := by
    simp [Ideal.ofBits, Ideal.ieee, -EReal.coe_mul]; norm_num
  have e2 : FloatOps.sitofp (F := Ideal) .f32 (BitVec.ofNat 32 k.val) = ((k.val : ℝ) : EReal) := by
    show (((BitVec.ofNat 32 k.val).toInt : ℝ) : EReal) = _
    have : (BitVec.ofNat 32 k.val).toInt = (k.val : ℤ) := (by decide +kernel : ∀ k : Fin 254, (BitVec.ofNat 32 k.val).toInt = (k.val : ℤ)) k
    rw [this]; norm_cast
  have h := k.isLt
  rw [start_pow _ (by omega) (by omega), e1, e2, ← EReal.coe_sub]
  show Ideal.exp2 _ = _
  rw [Ideal.exp2_coe]
  refine congrArg _ ?_
  rw [show (((k.val + 1 : ℕ) : ℤ) - 127) = ((k.val : ℤ) - 126) by push_cast; ring, ← Real.rpow_intCast]
  show (2 : ℝ) ^ ((k.val : ℝ) - 126) = _
  congr 1
  push_cast; ring

theorem least_bits : Ideal.ofBits .f32 8388608#32 = start 1 := rfl
theorem inf_bits : Ideal.ofBits .f32 2139095040#32 = ⊤ := start_top

theorem scaleR_eq (v : EReal) (c : ℕ) (hc : c < 253) (h : ∀ k : Fin 256, start k.val ≤ v ↔ k.val ≤ c) (h1 : c = 0 ↔ v < start 1) :
    scaleR v = start (if c = 0 then 127 else c + 1) := by
  unfold scaleR
  rw [least_bits, inf_bits]
  by_cases hz : c = 0
  · rw [if_pos (h1.mp hz), if_pos hz, start_pow 127 (by omega) (by omega)]
    norm_num
  · rw [if_neg (fun h' => hz (h1.mpr h')), if_neg hz]
    simp_rw [power_eq]
    have hk : ∀ k : Fin 254, v < start (k.val + 1) ↔ c ≤ k.val := by
      intro k
      have := h ⟨k.val + 1, by omega⟩
      rw [← not_le, this]; simp only; omega
    refine le_antisymm ?_ ?_
    · refine (Finset.fold_min_le _).mpr (Or.inr ⟨⟨c, by omega⟩, Finset.mem_univ _, ?_⟩)
      rw [if_pos ((hk _).mpr le_rfl)]
    · refine Finset.le_fold_min _ |>.mpr ⟨le_top, fun k _ => ?_⟩
      by_cases hck : c ≤ k.val
      · rw [if_pos ((hk k).mpr hck)]
        rcases Nat.eq_or_lt_of_le hck with h' | h'
        · rw [h']
        · exact (start_mono (by omega) (by omega) (by omega)).le
      · rw [if_neg (fun h' => hck ((hk k).mp h'))]; exact le_top

/-- The two ways to the scale agree, and the reciprocal is one over it. -/
theorem scale_agree (v : EReal) (h0 : 0 ≤ v) (hv : v < start 253) : scaleK v = scaleR v ∧ invK v = Ideal.div 1 (scaleR v) := by
  obtain ⟨c, hc, h, h1⟩ := exists_field v h0 hv
  have hK := scaleK_eq v c hc h
  have hR := scaleR_eq v c hc h h1
  refine ⟨hK.1.trans hR.symm, ?_⟩
  rw [hK.2, hR]
  have : ∀ a b : ℕ, 1 ≤ a → a ≤ 253 → b = 254 - a → start b = Ideal.div 1 (start a) := by
    intro a b ha ha' hb
    rw [start_pow a ha (by omega), start_pow b (by omega) (by omega)]
    rw [Ideal.div_coe (by positivity), one_mul]
    refine congrArg _ ?_
    rw [one_div, ← zpow_neg]
    congr 1
    omega
  by_cases hz : c = 0
  · rw [if_pos hz, if_pos hz]; exact this 127 127 (by omega) (by omega) (by omega)
  · rw [if_neg hz, if_neg hz]; exact this (c + 1) (253 - c) (by omega) (by omega) (by omega)

end Cert.Scale
end
-- ==== Proof.Spec.lean ====
/- The quantised activations and the dequantised weights at an index, as both programs state them. -/
module

public import proofs.«01_k».proof.Proof.Rows
public import proofs.«01_k».proof.Proof.Scale

@[expose] public section

set_option maxRecDepth 16384

noncomputable section

namespace Cert.Spec

open Idealize.ShloMosaic Cert.Rows Cert.Scale

/-- The activations, over the extended reals. -/
abbrev X := (⟨3, ![2, 2048, 8192]⟩ : Shape).Idx → EReal

/-- A group's largest magnitude over 448. -/
def vOf (f : Fin 128 → EReal) : EReal :=
  Finset.fold max (Ideal.ofBits .bf16 65408#16) (fun k => FloatOps.absf (F := Ideal) (φ := .bf16) (f k)) Finset.univ * Ideal.ofBits .f32 991054117#32

/-- Group `g` of row `r`. -/
def group (x : X) (r : Fin 4096) (g : Fin 64) : Fin 128 → EReal := fun k => xAt x r (⟨128 * g.val + k.val, by omega⟩ : Fin 8192)

/-- The scale of group `g` of row `r`. -/
def scaleAt (x : X) (r : Fin 4096) (g : Fin 64) : EReal := scaleR (vOf (group x r g))

/-- The group of a column. -/
def gOf (c : Fin 8192) : Fin 64 := ⟨c.val / 128, by omega⟩

/-- The code of row `r` at column `c`. -/
def codeAt (x : X) (r : Fin 4096) (c : Fin 8192) : EReal :=
  min (Ideal.ofBits .f32 1138753536#32) (max (Ideal.ofBits .f32 3286237184#32) (xAt x r c * Ideal.div 1 (scaleAt x r (gOf c))))

/-- The dequantised activation of row `r` at column `c`. -/
def deqAt (x : X) (r : Fin 4096) (c : Fin 8192) : EReal := codeAt x r c * scaleAt x r (gOf c)

/-- The dequantised weight of row `n` at column `c`. -/
def weightAt (w : (⟨2, ![2112, 8192]⟩ : Shape).Idx → EReal) (ws : (⟨2, ![17, 64]⟩ : Shape).Idx → EReal) (n : Fin 2112) (c : Fin 8192) : EReal :=
  w (ix2 n c) * ws (ix2 (⟨n.val / 128, by omega⟩ : Fin 17) (gOf c))

/-- Every activation is at most the largest finite one in magnitude. -/
def Finite (x : X) : Prop := ∀ r c, FloatOps.absf (F := Ideal) (φ := .bf16) (xAt x r c) ≤ Ideal.ofBits .bf16 0x7F7F#16

theorem absf_nonneg (a : EReal) : 0 ≤ FloatOps.absf (F := Ideal) (φ := .bf16) a := by
  show 0 ≤ max a (-a)
  rcases le_total 0 a with h | h
  · exact le_max_of_le_left h
  · exact le_max_of_le_right (EReal.neg_nonneg.mpr h)

theorem vOf_bounds (f : Fin 128 → EReal) (hf : ∀ k, FloatOps.absf (F := Ideal) (φ := .bf16) (f k) ≤ Ideal.ofBits .bf16 0x7F7F#16) : 0 ≤ vOf f ∧ vOf f < start 253 := by
  have hb : Ideal.ofBits .bf16 65408#16 = ⊥ := by simp [Ideal.ofBits, Ideal.ieee]
  have hC : Ideal.ofBits .f32 991054117#32 = (((2 ^ 23 + 1198373 : ℕ) * (2 : ℝ) ^ (-32 : ℤ) : ℝ) : EReal) := by
    simp [Ideal.ofBits, Ideal.ieee, -EReal.coe_mul]
  have hM : Ideal.ofBits .bf16 0x7F7F#16 = (((255 : ℕ) * (2 : ℝ) ^ (120 : ℤ) : ℝ) : EReal) := by
    simp [Ideal.ofBits, Ideal.ieee, -EReal.coe_mul]
  have hCpos : (0 : EReal) ≤ Ideal.ofBits .f32 991054117#32 := by rw [hC]; exact_mod_cast (by positivity : (0 : ℝ) ≤ (2 ^ 23 + 1198373 : ℕ) * (2 : ℝ) ^ (-32 : ℤ))
  unfold vOf
  rw [hb]
  have h0 : (0 : EReal) ≤ Finset.fold max ⊥ (fun k => FloatOps.absf (F := Ideal) (φ := .bf16) (f k)) Finset.univ :=
    (Finset.le_fold_max _).mpr (Or.inr ⟨0, Finset.mem_univ _, absf_nonneg _⟩)
  have h1 : Finset.fold max ⊥ (fun k => FloatOps.absf (F := Ideal) (φ := .bf16) (f k)) Finset.univ ≤ Ideal.ofBits .bf16 0x7F7F#16 :=
    (Finset.fold_max_le _).mpr ⟨bot_le, fun k _ => hf k⟩
  refine ⟨mul_nonneg h0 hCpos, lt_of_le_of_lt (mul_le_mul_of_nonneg_right h1 hCpos) ?_⟩
  rw [hM, hC, start_pow 253 (by omega) (by omega), ← EReal.coe_mul, EReal.coe_lt_coe_iff]
  norm_num

theorem agree (x : X) (hx : Finite x) (r : Fin 4096) (g : Fin 64) :
    scaleK (vOf (group x r g)) = scaleAt x r g ∧ invK (vOf (group x r g)) = Ideal.div 1 (scaleAt x r g) := by
  have hb := vOf_bounds (group x r g) (fun k => hx _ _)
  exact scale_agree _ hb.1 hb.2

end Cert.Spec
end
-- ==== Proof.KerMath.lean ====
/- What one grid point computes, at an index, when its rows are rows of the activations. -/
module

public import proofs.«01_k».proof.Proof.Closed
public import proofs.«01_k».proof.Proof.Spec

@[expose] public section

set_option maxRecDepth 16384

noncomputable section

namespace Cert.KernelIdeal.Hand

open Cert.KernelIdeal.Gen
open Idealize.ShloMosaic Cert.Rows Cert.Scale Cert.Spec

theorem scale_apply (xg : Vec Ideal S256x128 .bf16) (r : Fin 256) :
    gScale xg (Idealize.ShloMosaic.ix2 r (0 : Fin 1)) = scaleK (vOf fun k => xg (Idealize.ShloMosaic.ix2 r k)) := by
  pointwise [gScale, k0_pay28, k0_pay27, k0_pay26]
  rfl

theorem expo_apply (xg : Vec Ideal S256x128 .bf16) (r : Fin 256) :
    k0_pay27 xg (Idealize.ShloMosaic.ix2 r (0 : Fin 1)) = expo (vOf fun k => xg (Idealize.ShloMosaic.ix2 r k)) := by
  pointwise [k0_pay27, k0_pay26]
  rfl

theorem gCodes_apply (xg : Vec Ideal S256x128 .bf16) (r : Fin 256) (k : Fin 128) :
    gCodes xg (Idealize.ShloMosaic.ix2 r k)
      = min (Ideal.ofBits .f32 1138753536#32) (max (Ideal.ofBits .f32 3286237184#32) (xg (Idealize.ShloMosaic.ix2 r k) * invK (vOf fun k => xg (Idealize.ShloMosaic.ix2 r k)))) := by
  pointwise [gCodes, k0_pay29, k0_pay30, k0_pay26]
  rw [expo_apply]
  rfl

theorem gDeq_apply (xg : Vec Ideal S256x128 .bf16) (r : Fin 256) (k : Fin 128) :
    gDeq xg (Idealize.ShloMosaic.ix2 r k) = gCodes xg (Idealize.ShloMosaic.ix2 r k) * scaleK (vOf fun k => xg (Idealize.ShloMosaic.ix2 r k)) := by
  rw [← scale_apply]
  pointwise [gDeq, k0_pay31]
  rfl

/-- The group of columns `g` of a tile whose rows are rows of the activations. -/
theorem xcols_apply (x0 : Vec Ideal S256x8192 .bf16) (x : X) (row : Fin 256 → Fin 4096) (h : ∀ r c, x0 (Idealize.ShloMosaic.ix2 r c) = xAt x (row r) c)
    (g : Fin 64) (r : Fin 256) (k : Fin 128) : xcols x0 g.val (Idealize.ShloMosaic.ix2 r k) = group x (row r) g k := by
  unfold xcols group
  rw [← h]
  refine congrArg x0 ?_
  refine congrArg (Idealize.ShloMosaic.ix2 r) (Fin.ext ?_)
  exact Nat.mod_eq_of_lt (show 128 * g.val + k.val < 8192 by omega)

theorem select_eq (a b : BitVec 32) (x y : EReal) : Scalar.select (IntOp.cmpi .eq a b) x y = if a = b then x else y := by
  by_cases h : a = b
  · rw [if_pos h, h]; simp [Scalar.select, IntOp.cmpi]
  · rw [if_neg h]
    have hb : (a == b) = false := by simpa using h
    show (if BitVec.ofBool (a == b) = 1#1 then x else y) = y
    rw [hb]; rfl

section Tile
variable (x0 : Vec Ideal S256x8192 .bf16) (x : X) (hx : Finite x) (row : Fin 256 → Fin 4096) (h : ∀ r c, x0 (Idealize.ShloMosaic.ix2 r c) = xAt x (row r) c)
include h hx

theorem gScale_tile (g : Fin 64) (r : Fin 256) : gScale (xcols x0 g.val) (Idealize.ShloMosaic.ix2 r (0 : Fin 1)) = scaleAt x (row r) g := by
  rw [scale_apply]
  simp only [xcols_apply x0 x row h]
  exact (agree x hx (row r) g).1

theorem gCodes_tile (g : Fin 64) (r : Fin 256) (k : Fin 128) : gCodes (xcols x0 g.val) (Idealize.ShloMosaic.ix2 r k)
    = min (Ideal.ofBits .f32 1138753536#32) (max (Ideal.ofBits .f32 3286237184#32) (group x (row r) g k * Ideal.div 1 (scaleAt x (row r) g))) := by
  rw [gCodes_apply]
  simp only [xcols_apply x0 x row h]
  have := (agree x hx (row r) g).2
  exact congrArg (fun z => min (Ideal.ofBits .f32 1138753536#32) (max (Ideal.ofBits .f32 3286237184#32) (group x (row r) g k * z))) this

theorem codesB_apply (r : Fin 256) (c : Fin 8192) : codesB x0 (Idealize.ShloMosaic.ix2 r c) = codeAt x (row r) c := by
  have e := gCodes_tile x0 x hx row h (gOf c) r ⟨c.val % 128, Nat.mod_lt _ (by decide)⟩
  have : (⟨128 * (c.val / 128) + c.val % 128, by omega⟩ : Fin 8192) = c := Fin.ext (Nat.div_add_mod _ _)
  refine Eq.trans e ?_
  unfold codeAt group gOf
  simp only [this]

theorem deqB_apply (r : Fin 256) (c : Fin 8192) : deqB x0 (Idealize.ShloMosaic.ix2 r c) = deqAt x (row r) c := by
  have e := codesB_apply x0 x hx row h r c
  have e2 := gDeq_apply (xcols x0 (gOf c).val) r ⟨c.val % 128, Nat.mod_lt _ (by decide)⟩
  have e3 := gScale_tile x0 x hx row h (gOf c) r
  rw [scale_apply] at e3
  rw [e3] at e2
  refine Eq.trans e2 ?_
  unfold deqAt
  rw [← e]
  rfl

theorem chain_apply : ∀ n : ℕ, n ≤ 64 → ∀ (r : Fin 256) (l : Fin 64), l.val < n →
    scaleChain (xcols x0) n (Idealize.ShloMosaic.ix2 r l) = scaleAt x (row r) l
  | 0, _, _, _, hl => absurd hl (Nat.not_lt_zero _)
  | n + 1, hn, r, l, hl => by
    have hs : scaleChain (xcols x0) (n + 1) (Idealize.ShloMosaic.ix2 r l)
        = if l.val = n then gScale (xcols x0 n) (Idealize.ShloMosaic.ix2 r (0 : Fin 1)) else scaleChain (xcols x0) n (Idealize.ShloMosaic.ix2 r l) := by
      have hw : (BitVec.ofNat 32 l.val = BitVec.ofNat 32 n) ↔ l.val = n := by
        constructor
        · intro h'
          have := congrArg BitVec.toNat h'
          rw [BitVec.toNat_ofNat, BitVec.toNat_ofNat] at this
          omega
        · exact fun h' => by rw [h']
      rw [scaleChain]
      pointwise [lanes]
      rw [select_eq]
      by_cases hq : l.val = n
      · rw [if_pos hq, if_pos (hw.mpr hq)]
      · rw [if_neg hq, if_neg (fun h' => hq (hw.mp h'))]
    rw [hs]
    by_cases hq : l.val = n
    · rw [if_pos hq]
      have := gScale_tile x0 x hx row h l r
      rwa [hq] at this
    · rw [if_neg hq]
      exact chain_apply n (by omega) r l (by omega)

theorem scalesB_apply (r : Fin 256) (l : Fin 64) : scalesB x0 (Idealize.ShloMosaic.ix2 r l) = scaleAt x (row r) l :=
  chain_apply x0 x hx row h 64 le_rfl r l l.isLt

end Tile

/-- A column's group, as the kernel's integer arithmetic finds it. -/
theorem col_group : ∀ k : Fin 8192, (Scalar.select
                (IntOp.andi
                  (IntOp.cmpi CmpIPredicate.ne
                    (IntOp.subi (BitVec.setWidth 32 (IntOp.cmpi CmpIPredicate.sgt (BitVec.ofNat 32 k.val) 0#32))
                      (BitVec.setWidth 32 (IntOp.cmpi CmpIPredicate.slt (BitVec.ofNat 32 k.val) 0#32)))
                    (Scalar.subi (Scalar.extui (Scalar.cmpi CmpIPredicate.sgt 128#32 0#32))
                      (Scalar.extui (Scalar.cmpi CmpIPredicate.slt 128#32 0#32))))
                  (IntOp.cmpi CmpIPredicate.ne (IntOp.remsi ArithUnit.vector (BitVec.ofNat 32 k.val) 128#32) 0#32))
                (IntOp.subi (IntOp.divsi ArithUnit.vector (BitVec.ofNat 32 k.val) 128#32) 1#32)
                (IntOp.divsi ArithUnit.vector (BitVec.ofNat 32 k.val) 128#32)) = BitVec.ofNat 32 (k.val / 128) := by decide +kernel

theorem hot : ∀ x g : Fin 64, BitVec.setWidth 32 (IntOp.cmpi CmpIPredicate.eq (BitVec.ofNat 32 x.val) (BitVec.ofNat 32 g.val)) = if x = g then 1#32 else 0#32 := by decide +kernel

theorem pay1_apply (ws : Vec Ideal S17x64 .f32) (r : Fin 17) (c : Fin 8192) : k0_pay1 ws (Idealize.ShloMosaic.ix2 r c) = ws (Idealize.ShloMosaic.ix2 r (gOf c)) := by
  pointwise [k0_pay1]
  simp only [col_group]
  have hg : ∀ x : Fin 64, BitVec.setWidth 32 (IntOp.cmpi CmpIPredicate.eq (BitVec.ofNat 32 x.val) (BitVec.ofNat 32 (c.val / 128))) = if x = gOf c then 1#32 else 0#32 := fun x => hot x (gOf c)
  simp only [hg]
  rw [Finset.sum_eq_single (gOf c)]
  · rw [if_pos rfl]
    have : FloatOps.sitofp (F := Ideal) .f32 1#32 = (1 : EReal) := by
      show (((1#32 : BitVec 32).toInt : ℝ) : EReal) = 1
      simp
    rw [this, mul_one]
  · intro b _ hb
    rw [if_neg hb]
    have : FloatOps.sitofp (F := Ideal) .f32 0#32 = (0 : EReal) := by
      show (((0#32 : BitVec 32).toInt : ℝ) : EReal) = 0
      simp
    rw [this, mul_zero]
  · exact fun h => absurd (Finset.mem_univ _) h

theorem wdeqB_apply (w : Vec Ideal S2112x8192 .fp8e4m3) (ws : Vec Ideal S17x64 .f32) (n : Fin 2112) (c : Fin 8192) :
    wdeqB w ws (Idealize.ShloMosaic.ix2 n c) = weightAt w ws n c := by
  have := pay1_apply ws (⟨n.val / 128, by omega⟩ : Fin 17) c
  show w (Idealize.ShloMosaic.ix2 n c) * k0_pay1 ws (Idealize.ShloMosaic.ix2 (⟨n.val / 128, by omega⟩ : Fin 17) c) = _
  rw [this]
  rfl

end Cert.KernelIdeal.Hand
end
-- ==== Proof.Result.lean ====
/- The three projected results at an index, as both programs state them. -/
module

public import proofs.«01_k».proof.Proof.Spec

@[expose] public section

set_option maxRecDepth 16384

noncomputable section

namespace Cert.Spec

open Idealize.ShloMosaic Cert.Rows Cert.Scale

/-- The weights. -/
abbrev W := (⟨2, ![2112, 8192]⟩ : Shape).Idx → EReal
/-- The scales of the weights' blocks. -/
abbrev WS := (⟨2, ![17, 64]⟩ : Shape).Idx → EReal

/-- Row `r` of the dequantised activations times row `n` of the dequantised weights. -/
def projAt (x : X) (w : W) (ws : WS) (r : Fin 4096) (n : Fin 2112) : EReal := ∑ c : Fin 8192, deqAt x r c * weightAt w ws n c

/-- Element `j` of `v` over the root of its mean square, times `g`; `width` is the float of the number of elements. -/
def rms {N : ℕ} (width : BitVec 32) (v : Fin N → EReal) (g : EReal) (j : Fin N) : EReal :=
  v j * Ideal.rsqrt (Ideal.div (∑ k : Fin N, v k * v k) (Ideal.ofBits .f32 width) + Ideal.ofBits .f32 897988541#32) * g

/-- The normalised queries: columns 0 to 1535 of the product. -/
def qAt (x : X) (w : W) (ws : WS) (g : (⟨1, ![1536]⟩ : Shape).Idx → EReal) (r : Fin 4096) (j : Fin 1536) : EReal :=
  rms 1153433600#32 (fun k : Fin 1536 => projAt x w ws r (⟨k.val, by omega⟩ : Fin 2112)) (g (ix1 j)) j

/-- The normalised keys and values: columns 1536 to 2047. -/
def kvAt (x : X) (w : W) (ws : WS) (g : (⟨1, ![512]⟩ : Shape).Idx → EReal) (r : Fin 4096) (j : Fin 512) : EReal :=
  rms 1140850688#32 (fun k : Fin 512 => projAt x w ws r (⟨1536 + k.val, by omega⟩ : Fin 2112)) (g (ix1 j)) j

/-- The rotary part: columns 2048 to 2111. -/
def peAt (x : X) (w : W) (ws : WS) (r : Fin 4096) (j : Fin 64) : EReal := projAt x w ws r (⟨2048 + j.val, by omega⟩ : Fin 2112)

end Cert.Spec
end
-- ==== Proof.KerResult.lean ====
/- The three projected results of one grid point at an index, when its rows are rows of the activations. -/
module

public import proofs.«01_k».proof.Proof.KerMath
public import proofs.«01_k».proof.Proof.Result

@[expose] public section

set_option maxRecDepth 16384

noncomputable section

namespace Cert.KernelIdeal.Hand

open Cert.KernelIdeal.Gen
open Idealize.ShloMosaic Cert.Rows Cert.Scale Cert.Spec

/-- The product of two matrices on their second axes, at an index. -/
theorem product_apply (d : Vec Ideal S256x8192 .bf16) (wd : Vec Ideal S2112x8192 .bf16) (r : Fin 256) (n : Fin 2112) :
    k0_pay512 d wd (Idealize.ShloMosaic.ix2 r n) = ∑ c : Fin 8192, d (Idealize.ShloMosaic.ix2 r c) * wd (Idealize.ShloMosaic.ix2 n c) := by
  pointwise [k0_pay512]

section Tile
variable (x0 : Vec Ideal S256x8192 .bf16) (x : X) (hx : Finite x) (row : Fin 256 → Fin 4096) (h : ∀ r c, x0 (Idealize.ShloMosaic.ix2 r c) = xAt x (row r) c)
variable (w : Vec Ideal S2112x8192 .fp8e4m3) (ws : Vec Ideal S17x64 .f32)
include hx h

theorem proj_apply (r : Fin 256) (n : Fin 2112) : k0_pay512 (deqB x0) (wdeqB w ws) (Idealize.ShloMosaic.ix2 r n) = projAt x w ws (row r) n := by
  rw [product_apply]
  simp only [deqB_apply x0 x hx row h, wdeqB_apply]
  rfl

theorem qB_apply (g : Vec Ideal S1x1536 .bf16) (gamma : (⟨1, ![1536]⟩ : Shape).Idx → EReal) (hg : ∀ j : Fin 1536, g (Idealize.ShloMosaic.ix2 (0 : Fin 1) j) = gamma (Idealize.ShloMosaic.ix1 j))
    (r : Fin 256) (j : Fin 1536) : qB x0 (wdeqB w ws) g (Idealize.ShloMosaic.ix2 r j) = qAt x w ws gamma (row r) j := by
  have hp := proj_apply x0 x hx row h w ws r
  unfold qB k0_pay513
  dsimp only
  generalize k0_pay512 (deqB x0) (wdeqB w ws) = v at hp ⊢
  pointwise
  simp only [hp, hg]
  rfl

theorem kvB_apply (g : Vec Ideal S1x512 .bf16) (gamma : (⟨1, ![512]⟩ : Shape).Idx → EReal) (hg : ∀ j : Fin 512, g (Idealize.ShloMosaic.ix2 (0 : Fin 1) j) = gamma (Idealize.ShloMosaic.ix1 j))
    (r : Fin 256) (j : Fin 512) : kvB x0 (wdeqB w ws) g (Idealize.ShloMosaic.ix2 r j) = kvAt x w ws gamma (row r) j := by
  have hp := proj_apply x0 x hx row h w ws r
  unfold kvB k0_pay514
  dsimp only
  generalize k0_pay512 (deqB x0) (wdeqB w ws) = v at hp ⊢
  pointwise
  simp only [hp, hg]
  rfl

theorem peB_apply (r : Fin 256) (j : Fin 64) : peB x0 (wdeqB w ws) (Idealize.ShloMosaic.ix2 r j) = peAt x w ws (row r) j := by
  have hp := proj_apply x0 x hx row h w ws r
  unfold peB k0_pay515
  generalize k0_pay512 (deqB x0) (wdeqB w ws) = v at hp ⊢
  pointwise
  simp only [hp]
  rfl

end Tile

end Cert.KernelIdeal.Hand
end
-- ==== Proof.KerFinal.lean ====
/- The five result arrays after the run, at an index, and the run restated with them. -/
module

public import proofs.«01_k».proof.Proof.KerResult
public import proofs.«01_k».proof.Proof.Run
public import Idealize.ShloMosaic.Lib.Pipeline.Value
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Cert.Rows Cert.Scale Cert.Spec
open Idealize.SL.Sem
open Idealize.ShloMosaic.Pipeline (Dat)

variable (m : (ℓ : Loc nD τ sig) → Buf (Elt Ideal) ℓ) (ρ : Dev nD → PrngReg)

/-! ## The arrays the launch reads -/

theorem V_rows (c : Dev nD) : V m c main_v0 = shapeCast S4096x8192 (m ((c : Thread nD τ).loc main_arg0)) shapeCasts_S2x2048x8192_S4096x8192 := rfl
theorem V_gq (c : Dev nD) : V m c main_v1 = shapeCast S1x1536 (m ((c : Thread nD τ).loc main_arg3)) shapeCasts_S1536_S1x1536 := rfl
theorem V_gk (c : Dev nD) : V m c main_v2 = shapeCast S1x512 (m ((c : Thread nD τ).loc main_arg4)) shapeCasts_S512_S1x512 := rfl

/-! ## The blocks a point reads -/

theorem index_rows : ∀ t : Fin cfg0.N, win0_0.index t = ![t.val, 0] := (by decide +kernel : ∀ t : Fin grid0.N, win0_0.index t = ![t.val, 0])
theorem index_ws : ∀ t : Fin cfg0.N, win0_1.index t = ![0, 0] := (by decide +kernel : ∀ t : Fin grid0.N, win0_1.index t = ![0, 0])
theorem index_gq : ∀ t : Fin cfg0.N, win0_2.index t = ![0, 0] := (by decide +kernel : ∀ t : Fin grid0.N, win0_2.index t = ![0, 0])
theorem index_gk : ∀ t : Fin cfg0.N, win0_3.index t = ![0, 0] := (by decide +kernel : ∀ t : Fin grid0.N, win0_3.index t = ![0, 0])
theorem index_q : ∀ t : Fin cfg0.N, win0_4.index t = ![t.val, 0] := (by decide +kernel : ∀ t : Fin grid0.N, win0_4.index t = ![t.val, 0])
theorem index_kv : ∀ t : Fin cfg0.N, win0_5.index t = ![t.val, 0] := (by decide +kernel : ∀ t : Fin grid0.N, win0_5.index t = ![t.val, 0])
theorem index_pe : ∀ t : Fin cfg0.N, win0_6.index t = ![t.val, 0] := (by decide +kernel : ∀ t : Fin grid0.N, win0_6.index t = ![t.val, 0])
theorem index_codes : ∀ t : Fin cfg0.N, win0_7.index t = ![t.val, 0] := (by decide +kernel : ∀ t : Fin grid0.N, win0_7.index t = ![t.val, 0])
theorem index_scales : ∀ t : Fin cfg0.N, win0_8.index t = ![t.val, 0] := (by decide +kernel : ∀ t : Fin grid0.N, win0_8.index t = ![t.val, 0])

/-- Row `r` of point `t`'s block, among all the rows. -/
def rowOf (t : Fin cfg0.N) (r : Fin 256) : Fin 4096 := ⟨256 * t.val + r.val, by have := lt_of_lt_of_eq t.isLt (show cfg0.N = 16 from N_0); omega⟩

/-- Point `t`'s block of activations: rows 256 t to 256 t + 255. -/
theorem rows_apply (c : Dev nD) (t : Fin cfg0.N) (r : Fin 256) (l : Fin 8192) :
    iblk m c 0 t (Idealize.ShloMosaic.ix2 r l) = xAt (m ((c : Thread nD τ).loc main_arg0)) (rowOf t r) l := by
  rw [← cast_rows (m ((c : Thread nD τ).loc main_arg0)) shapeCasts_S2x2048x8192_S4096x8192 (rowOf t r) l]
  blk_simp [iblk]
  rw [V_rows]
  refine congrArg (shapeCast S4096x8192 (m ((c : Thread nD τ).loc main_arg0)) shapeCasts_S2x2048x8192_S4096x8192) ?_
  unfold rowOf
  blk_ext [index_rows]

/-- The weights' scales: the whole array at every point. -/
theorem ws_eq (c : Dev nD) (t : Fin cfg0.N) : iblk m c 1 t = m ((c : Thread nD τ).loc main_arg2) := by
  rw [← V_main_arg2 m c]
  funext y
  blk_simp [iblk]
  refine congrArg (V m c main_arg2) ?_
  blk_ext [index_ws]

theorem gq_apply (c : Dev nD) (t : Fin cfg0.N) (j : Fin 1536) :
    iblk m c 2 t (Idealize.ShloMosaic.ix2 (0 : Fin 1) j) = m ((c : Thread nD τ).loc main_arg3) (Idealize.ShloMosaic.ix1 j) := by
  have e : shapeCast S1x1536 (m ((c : Thread nD τ).loc main_arg3)) shapeCasts_S1536_S1x1536 (Idealize.ShloMosaic.ix2 (0 : Fin 1) j) = m ((c : Thread nD τ).loc main_arg3) (Idealize.ShloMosaic.ix1 j) := by
    pointwise
  rw [← e]
  blk_simp [iblk]
  rw [V_gq]
  refine congrArg (shapeCast S1x1536 (m ((c : Thread nD τ).loc main_arg3)) shapeCasts_S1536_S1x1536) ?_
  blk_ext [index_gq]

theorem gk_apply (c : Dev nD) (t : Fin cfg0.N) (j : Fin 512) :
    iblk m c 3 t (Idealize.ShloMosaic.ix2 (0 : Fin 1) j) = m ((c : Thread nD τ).loc main_arg4) (Idealize.ShloMosaic.ix1 j) := by
  have e : shapeCast S1x512 (m ((c : Thread nD τ).loc main_arg4)) shapeCasts_S512_S1x512 (Idealize.ShloMosaic.ix2 (0 : Fin 1) j) = m ((c : Thread nD τ).loc main_arg4) (Idealize.ShloMosaic.ix1 j) := by
    pointwise
  rw [← e]
  blk_simp [iblk]
  rw [V_gk]
  refine congrArg (shapeCast S1x512 (m ((c : Thread nD τ).loc main_arg4)) shapeCasts_S512_S1x512) ?_
  blk_ext [index_gk]

/-- The dequantised weights as the launch computes them, of the arguments. -/
theorem wd_eq (c : Dev nD) : wd0 m c = wdeqB (m ((c : Thread nD τ).loc main_arg1)) (m ((c : Thread nD τ).loc main_arg2)) := by
  unfold wd0
  rw [ws_eq, V_main_arg1]

/-! ## The result arrays after the run -/

theorem final_q (c : Dev nD) (hx : Finite (m ((c : Thread nD τ).loc main_arg0))) :
    (dats m 0 c).arrAt 4 cfg0.N = fun i : S4096x1536.Idx => qAt (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4, wd_eq]
  refine (congrArg _ (eq_ix2 y)).trans ((qB_apply (iblk m c 0 t) _ hx (rowOf t) (rows_apply m c t) _ _ _ _ (gq_apply m c t) (y 0) (y 1)).trans ?_)
  refine congrArg₂ (qAt (m ((c : Thread nD τ).loc main_arg0)) (m ((c : Thread nD τ).loc main_arg1)) (m ((c : Thread nD τ).loc main_arg2)) (m ((c : Thread nD τ).loc main_arg3))) (Fin.ext ?_) (Fin.ext ?_)
  · unfold rowOf
    blk_simp [index_q]
    simp
    omega
  · blk_simp [index_q]

theorem final_kv (c : Dev nD) (hx : Finite (m ((c : Thread nD τ).loc main_arg0))) :
    (dats m 0 c).arrAt 5 cfg0.N = fun i : S4096x512.Idx => kvAt (m ((c : Thread nD τ).loc main_arg0)) (m ((c : Thread nD τ).loc main_arg1)) (m ((c : Thread nD τ).loc main_arg2)) (m ((c : Thread nD τ).loc main_arg4)) (i 0) (i 1) := by
  refine (dats m 0 c).arrAt_eq_of_covers 5 _ (by decide +kernel) fun t hf y => ?_
  blk_simp
  rw [after0_5, wd_eq]
  refine (congrArg _ (eq_ix2 y)).trans ((kvB_apply (iblk m c 0 t) _ hx (rowOf t) (rows_apply m c t) _ _ _ _ (gk_apply m c t) (y 0) (y 1)).trans ?_)
  refine congrArg₂ (kvAt (m ((c : Thread nD τ).loc main_arg0)) (m ((c : Thread nD τ).loc main_arg1)) (m ((c : Thread nD τ).loc main_arg2)) (m ((c : Thread nD τ).loc main_arg4))) (Fin.ext ?_) (Fin.ext ?_)
  · unfold rowOf
    blk_simp [index_kv]
    simp
    omega
  · blk_simp [index_kv]

theorem final_pe (c : Dev nD) (hx : Finite (m ((c : Thread nD τ).loc main_arg0))) :
    (dats m 0 c).arrAt 6 cfg0.N = fun i : S4096x64.Idx => peAt (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  blk_simp
  rw [after0_6, wd_eq]
  refine (congrArg _ (eq_ix2 y)).trans ((peB_apply (iblk m c 0 t) _ hx (rowOf t) (rows_apply m c t) _ _ (y 0) (y 1)).trans ?_)
  refine congrArg₂ (peAt (m ((c : Thread nD τ).loc main_arg0)) (m ((c : Thread nD τ).loc main_arg1)) (m ((c : Thread nD τ).loc main_arg2))) (Fin.ext ?_) (Fin.ext ?_)
  · unfold rowOf
    blk_simp [index_pe]
    simp
    omega
  · blk_simp [index_pe]

theorem final_codes (c : Dev nD) (hx : Finite (m ((c : Thread nD τ).loc main_arg0))) :
    (dats m 0 c).arrAt 7 cfg0.N = fun i : S4096x8192.Idx => codeAt (m ((c : Thread nD τ).loc main_arg0)) (i 0) (i 1) := by
  refine (dats m 0 c).arrAt_eq_of_covers 7 _ (by decide +kernel) fun t hf y => ?_
  blk_simp
  rw [after0_7]
  refine (congrArg _ (eq_ix2 y)).trans ((codesB_apply (iblk m c 0 t) _ hx (rowOf t) (rows_apply m c t) (y 0) (y 1)).trans ?_)
  refine congrArg₂ (codeAt (m ((c : Thread nD τ).loc main_arg0))) (Fin.ext ?_) (Fin.ext ?_)
  · unfold rowOf
    blk_simp [index_codes]
    simp
    omega
  · blk_simp [index_codes]

theorem final_scales (c : Dev nD) (hx : Finite (m ((c : Thread nD τ).loc main_arg0))) :
    (dats m 0 c).arrAt 8 cfg0.N = fun i : S4096x64.Idx => scaleAt (m ((c : Thread nD τ).loc main_arg0)) (i 0) (i 1) := by
  refine (dats m 0 c).arrAt_eq_of_covers 8 _ (by decide +kernel) fun t hf y => ?_
  blk_simp
  rw [after0_8]
  refine (congrArg _ (eq_ix2 y)).trans ((scalesB_apply (iblk m c 0 t) _ hx (rowOf t) (rows_apply m c t) (y 0) (y 1)).trans ?_)
  refine congrArg₂ (scaleAt (m ((c : Thread nD τ).loc main_arg0))) (Fin.ext ?_) (Fin.ext ?_)
  · unfold rowOf
    blk_simp [index_scales]
    simp
    omega
  · blk_simp [index_scales]

/-- Every run ends with the five results at their values of the arguments, and the arguments unchanged. -/
theorem run (hx : ∀ c : Dev nD, Finite (m ((c : Thread nD τ).loc main_arg0))) :
    θ_run defs (onTc (τ := τ) (main (F := Ideal))) ⟨m, fun _ => 0, ρ⟩ fun r => ∀ c : Dev nD,
      r.2.mem ((c : Thread nD τ).loc main_v3_0) = (fun i : S4096x1536.Idx => qAt (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v3_1) = (fun i : S4096x512.Idx => kvAt (m ((c : Thread nD τ).loc main_arg0)) (m ((c : Thread nD τ).loc main_arg1)) (m ((c : Thread nD τ).loc main_arg2)) (m ((c : Thread nD τ).loc main_arg4)) (i 0) (i 1))
      ∧ r.2.mem ((c : Thread nD τ).loc main_v3_2) = (fun i : S4096x64.Idx => peAt (m ((c : Thread nD τ).loc main_arg0)) (m ((c : Thread nD τ).loc main_arg1)) (m ((c : Thread nD τ).loc main_arg2)) (i 0) (i 1))
      ∧ r.2.mem ((c : Thread nD τ).loc main_v3_3) = (fun i : S4096x8192.Idx => codeAt (m ((c : Thread nD τ).loc main_arg0)) (i 0) (i 1))
      ∧ r.2.mem ((c : Thread nD τ).loc main_v3_4) = (fun i : S4096x64.Idx => scaleAt (m ((c : Thread nD τ).loc main_arg0)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 4).trans (final_q m c (hx c)), ((h.1 c).1 5).trans (final_kv m c (hx c)), ((h.1 c).1 6).trans (final_pe m c (hx c)),
      ((h.1 c).1 7).trans (final_codes m c (hx c)), ((h.1 c).1 8).trans (final_scales m c (hx c)), h.2 c⟩)
    (θ_run_and (run_main m ρ) (unchanged m ρ))

end Cert.KernelIdeal.Hand
end
-- ==== Proof.RefMath.lean ====
/- The reference's results at an index. -/
module

public import proofs.«01_k».proof.Proof.Gen.ReferenceIdeal.Value
public import proofs.«01_k».proof.Proof.Spec

@[expose] public section

set_option maxRecDepth 16384

noncomputable section

namespace Cert.ReferenceIdeal.Hand

open Cert.ReferenceIdeal.Gen
open Idealize.ShloMosaic Cert.Rows Cert.Scale Cert.Spec

theorem pay4_apply (x : Vec Ideal S2x2048x8192 .bf16) (r : Fin 4096) (g : Fin 64) (k : Fin 128) :
    k0_pay4 x (Idealize.ShloMosaic.ix3 r g k) = group x r g k := by
  unfold k0_pay4
  exact cast_groups x _ r g k

/-- One number per group, spread over the group's elements. -/
theorem spread_group (v : FVec Ideal S4096x64 .f32) (r : Fin 4096) (g : Fin 64) (k : Fin 128) :
    broadcastTo S4096x64x128 (shapeCast S4096x64x1 v shapeCasts_S4096x64_S4096x64x1) broadcasts_S4096x64x1_S4096x64x128 (Idealize.ShloMosaic.ix3 r g k) = v (Idealize.ShloMosaic.ix2 r g) := by
  pointwise

/-- One number per group, against every power of two. -/
theorem spread_powers (v : FVec Ideal S4096x64 .f32) (r : Fin 4096) (g : Fin 64) (k : Fin 254) :
    broadcastTo S4096x64x254 (shapeCast S4096x64x1 v shapeCasts_S4096x64_S4096x64x1) broadcasts_S4096x64x1_S4096x64x254 (Idealize.ShloMosaic.ix3 r g k) = v (Idealize.ShloMosaic.ix2 r g) := by
  pointwise

theorem powers_read (p : FVec Ideal S1x1x254 .f32) (r : Fin 4096) (g : Fin 64) (k : Fin 254) :
    broadcastTo S4096x64x254 p broadcasts_S1x1x254_S4096x64x254 (Idealize.ShloMosaic.ix3 r g k) = p (Idealize.ShloMosaic.ix3 (0 : Fin 1) (0 : Fin 1) k) := by
  pointwise

theorem max_group (v : FVec Ideal S4096x64x128 .bf16) (hr hk) (r : Fin 4096) (g : Fin 64) :
    multiReduction FKind.maximumf [2] S4096x64 v (65408#16) reduces_S4096x64x128_S4096x64 hr hk (Idealize.ShloMosaic.ix2 r g)
      = Finset.fold max (Ideal.ofBits .bf16 65408#16) (fun k => v (Idealize.ShloMosaic.ix3 r g k)) Finset.univ := by
  pointwise

theorem min_powers (v : FVec Ideal S4096x64x254 .f32) (hr hk) (r : Fin 4096) (g : Fin 64) :
    multiReduction FKind.minimumf [2] S4096x64 v (2139095040#32) reduces_S4096x64x254_S4096x64 hr hk (Idealize.ShloMosaic.ix2 r g)
      = Finset.fold min (Ideal.ofBits .f32 2139095040#32) (fun k => v (Idealize.ShloMosaic.ix3 r g k)) Finset.univ := by
  pointwise

theorem powers_apply (k : Fin 254) :
    exp2 (subf (sitofp FTy.f32 (iota Kind.tc S1x1x254 32 [2] iota_S1x1x254_d2_w32)) (broadcast S1x1x254 (Scalar.ofBits (F := Ideal) FTy.f32 1123811328#32))) (Idealize.ShloMosaic.ix3 (0 : Fin 1) (0 : Fin 1) k)
      = FloatOps.exp2 (F := Ideal) (φ := .f32) (FloatOps.sitofp (F := Ideal) .f32 (BitVec.ofNat 32 k.val) - Ideal.ofBits .f32 1123811328#32) := by
  pointwise

theorem select_lt (a b : EReal) (x y : EReal) : Scalar.select (FloatOps.cmpf (F := Ideal) (φ := .f32) .olt a b) x y = if a < b then x else y := by
  by_cases h : a < b <;> simp [Scalar.select, FloatOps.cmpf, Ideal.cmp, h]

theorem select_gt (a b : EReal) (x y : EReal) : Scalar.select (FloatOps.cmpf (F := Ideal) (φ := .f32) .ogt a b) x y = if b < a then x else y := by
  by_cases h : b < a <;> simp [Scalar.select, FloatOps.cmpf, Ideal.cmp, h]

/-- A vector times a constant, at an index. -/
theorem scaled_apply (v : FVec Ideal S4096x64 .bf16) (r : Fin 4096) (g : Fin 64) :
    mulf (extf FTy.f32 v bitsLt_bf16_f32) (broadcast S4096x64 (Scalar.ofBits (F := Ideal) FTy.f32 991054117#32)) (Idealize.ShloMosaic.ix2 r g)
      = v (Idealize.ShloMosaic.ix2 r g) * Ideal.ofBits .f32 991054117#32 := by
  pointwise

/-- The group's largest magnitude over 448, as the reference computes it. -/
theorem v_apply (v1 : FVec Ideal S4096x64x128 .bf16) (x : X) (h4 : ∀ r g k, v1 (Idealize.ShloMosaic.ix3 r g k) = group x r g k) (hr hk) (r : Fin 4096) (g : Fin 64) :
    mulf (extf FTy.f32 (multiReduction FKind.maximumf [2] S4096x64 (absf v1) (65408#16) reduces_S4096x64x128_S4096x64 hr hk) bitsLt_bf16_f32)
      (broadcast S4096x64 (Scalar.ofBits (F := Ideal) FTy.f32 991054117#32)) (Idealize.ShloMosaic.ix2 r g) = vOf (group x r g) := by
  rw [scaled_apply, max_group]
  have h : (fun k => absf v1 (Idealize.ShloMosaic.ix3 r g k)) = fun k => FloatOps.absf (F := Ideal) (φ := .bf16) (group x r g k) := by
    funext k
    rw [← h4]
    rfl
  rw [h]
  rfl

/-- One below the least normal number, and the other value elsewhere. -/
theorem below_apply (v w : FVec Ideal S4096x64 .f32) (r : Fin 4096) (g : Fin 64) :
    select (cmpf .olt v (broadcast S4096x64 (Scalar.ofBits (F := Ideal) .f32 0x00800000#32))) (broadcast S4096x64 (Scalar.ofBits (F := Ideal) .f32 0x3F800000#32)) w (Idealize.ShloMosaic.ix2 r g)
      = if v (Idealize.ShloMosaic.ix2 r g) < Ideal.ofBits .f32 8388608#32 then 1 else w (Idealize.ShloMosaic.ix2 r g) := by
  rw [← Idealize.ShloMosaic.Ideal.ofBits_one_f32]
  exact select_lt _ _ _ _

/-- The powers above a value, and infinity for the others. -/
theorem above_apply (p q v : FVec Ideal S4096x64x254 .f32) (r : Fin 4096) (g : Fin 64) (k : Fin 254) :
    select (cmpf .ogt p v) q (broadcast S4096x64x254 (Scalar.ofBits (F := Ideal) .f32 0x7F800000#32)) (Idealize.ShloMosaic.ix3 r g k)
      = if v (Idealize.ShloMosaic.ix3 r g k) < p (Idealize.ShloMosaic.ix3 r g k) then q (Idealize.ShloMosaic.ix3 r g k) else Ideal.ofBits .f32 2139095040#32 :=
  select_gt _ _ _ _

/-- The reference's scale: the least power of two above the value, or one below the least normal number. -/
theorem search_apply (v : FVec Ideal S4096x64 .f32) (p q : FVec Ideal S1x1x254 .f32) (hr hk) (r : Fin 4096) (g : Fin 64) (a : EReal) (ha : v (Idealize.ShloMosaic.ix2 r g) = a)
    (hp : ∀ k : Fin 254, p (Idealize.ShloMosaic.ix3 (0 : Fin 1) (0 : Fin 1) k) = FloatOps.exp2 (F := Ideal) (φ := .f32) (FloatOps.sitofp (F := Ideal) .f32 (BitVec.ofNat 32 k.val) - Ideal.ofBits .f32 1123811328#32))
    (hq : ∀ k : Fin 254, q (Idealize.ShloMosaic.ix3 (0 : Fin 1) (0 : Fin 1) k) = FloatOps.exp2 (F := Ideal) (φ := .f32) (FloatOps.sitofp (F := Ideal) .f32 (BitVec.ofNat 32 k.val) - Ideal.ofBits .f32 1123811328#32)) :
    select (cmpf .olt v (broadcast S4096x64 (Scalar.ofBits (F := Ideal) .f32 0x00800000#32))) (broadcast S4096x64 (Scalar.ofBits (F := Ideal) .f32 0x3F800000#32))
      (multiReduction FKind.minimumf [2] S4096x64
        (select (cmpf .ogt (broadcastTo S4096x64x254 p broadcasts_S1x1x254_S4096x64x254)
            (broadcastTo S4096x64x254 (shapeCast S4096x64x1 v shapeCasts_S4096x64_S4096x64x1) broadcasts_S4096x64x1_S4096x64x254))
          (broadcastTo S4096x64x254 q broadcasts_S1x1x254_S4096x64x254)
          (broadcast S4096x64x254 (Scalar.ofBits (F := Ideal) .f32 0x7F800000#32)))
        (2139095040#32) reduces_S4096x64x254_S4096x64 hr hk) (Idealize.ShloMosaic.ix2 r g) = scaleR a := by
  rw [below_apply, min_powers]
  simp only [above_apply, spread_powers, powers_read, ha, hp, hq]
  rfl

theorem pay5_apply (x : Vec Ideal S2x2048x8192 .bf16) (r : Fin 4096) (g : Fin 64) :
    k0_pay5 x (Idealize.ShloMosaic.ix2 r g) = scaleAt x r g := by
  unfold k0_pay5
  generalize hv : k0_pay4 x = v1
  have h4 : ∀ r g k, v1 (Idealize.ShloMosaic.ix3 r g k) = group x r g k := by
    intro r g k
    rw [← hv]
    exact pay4_apply x r g k
  clear hv
  dsimp only
  refine search_apply _ _ _ _ _ r g _ (v_apply v1 x h4 _ _ r g) powers_apply ?_
  intro k
  rw [shapeCast_id]
  exact powers_apply k

/-- One over a vector, at an index. -/
theorem recip_apply (v : FVec Ideal S4096x64 .f32) (r : Fin 4096) (g : Fin 64) :
    divf (broadcast S4096x64 (Scalar.ofBits (F := Ideal) .f32 0x3F800000#32)) v (Idealize.ShloMosaic.ix2 r g) = Ideal.div 1 (v (Idealize.ShloMosaic.ix2 r g)) := by
  rw [← Idealize.ShloMosaic.Ideal.ofBits_one_f32]
  rfl

/-- A product cut off at 448 on both sides. -/
theorem clip_apply (u : FVec Ideal S4096x64x128 .bf16) (v : FVec Ideal S4096x64x128 .f32) (r : Fin 4096) (g : Fin 64) (k : Fin 128) :
    truncf .fp8e4m3 (minimumf (broadcast S4096x64x128 (Scalar.ofBits (F := Ideal) .f32 0x43E00000#32))
      (maximumf (broadcast S4096x64x128 (Scalar.ofBits (F := Ideal) .f32 0xC3E00000#32)) (mulf (extf .f32 u bitsLt_bf16_f32) v))) bitsLt_fp8e4m3_f32 (Idealize.ShloMosaic.ix3 r g k)
      = min (Ideal.ofBits .f32 1138753536#32) (max (Ideal.ofBits .f32 3286237184#32) (u (Idealize.ShloMosaic.ix3 r g k) * v (Idealize.ShloMosaic.ix3 r g k))) := rfl

theorem pay6_apply (x : Vec Ideal S2x2048x8192 .bf16) (r : Fin 4096) (g : Fin 64) (k : Fin 128) :
    k0_pay6 x (Idealize.ShloMosaic.ix3 r g k)
      = min (Ideal.ofBits .f32 1138753536#32) (max (Ideal.ofBits .f32 3286237184#32) (group x r g k * Ideal.div 1 (scaleAt x r g))) := by
  unfold k0_pay6
  have h4 := pay4_apply x r g k
  have h5 := pay5_apply x r g
  generalize k0_pay4 x = v4 at h4 ⊢
  generalize k0_pay5 x = v5 at h5 ⊢
  rw [clip_apply, spread_group, recip_apply, h4, h5]

theorem code_apply (x : Vec Ideal S2x2048x8192 .bf16) (r : Fin 4096) (c : Fin 8192) (h1 h2) :
    k0_pay6 x (Idealize.ShloMosaic.ix3 r (⟨c.val / 128, h1⟩ : Fin 64) (⟨c.val % 128, h2⟩ : Fin 128)) = codeAt x r c := by
  rw [pay6_apply]
  unfold codeAt gOf group
  have : (⟨128 * (c.val / 128) + c.val % 128, by omega⟩ : Fin 8192) = c := Fin.ext (Nat.div_add_mod _ _)
  simp only [this]

theorem pay3_apply (x : Vec Ideal S2x2048x8192 .bf16) (r : Fin 4096) (c : Fin 8192) :
    k0_pay3 (k0_pay6 x) (Idealize.ShloMosaic.ix2 r c) = codeAt x r c := by
  pointwise [k0_pay3]
  exact code_apply x r c _ _

theorem pay7_apply (x : Vec Ideal S2x2048x8192 .bf16) (r : Fin 4096) (c : Fin 8192) :
    k0_pay7 x (Idealize.ShloMosaic.ix2 r c) = deqAt x r c := by
  pointwise [k0_pay7]
  rw [code_apply, pay5_apply]
  rfl

theorem pay9_apply (ws : Vec Ideal S17x64 .f32) (w : Vec Ideal S2112x8192 .fp8e4m3) (n : Fin 2112) (c : Fin 8192) :
    k0_pay9 (k0_pay8 ws) w (Idealize.ShloMosaic.ix2 n c) = weightAt w ws n c := by
  pointwise [k0_pay8, k0_pay9]
  rfl

end Cert.ReferenceIdeal.Hand
end
-- ==== Proof.RefResult.lean ====
/- The reference's three projected results at an index. -/
module

public import proofs.«01_k».proof.Proof.RefMath
public import proofs.«01_k».proof.Proof.Result

@[expose] public section

set_option maxRecDepth 16384

noncomputable section

namespace Cert.ReferenceIdeal.Hand

open Cert.ReferenceIdeal.Gen
open Idealize.ShloMosaic Cert.Rows Cert.Scale Cert.Spec

/-- The product with the first 1536 rows of the weights. -/
theorem product_q (a : FVec Ideal S4096x8192 .bf16) (b : FVec Ideal S2112x8192 .bf16) (r : Fin 4096) (j : Fin 1536) :
    matmul dot_S4096x8192_S1536x8192_S4096x1536_1_1_0_0_n_n none a (extractStridedSlice S1536x8192 ![0, 0] b slices_S2112x8192_o0_0_S1536x8192)
      (constant S4096x1536 .f32 0x00000000#32) (Idealize.ShloMosaic.ix2 r j)
      = ∑ c : Fin 8192, a (Idealize.ShloMosaic.ix2 r c) * b (Idealize.ShloMosaic.ix2 (⟨j.val, by omega⟩ : Fin 2112) c) := by
  pointwise

/-- The product with the other 576 rows of the weights. -/
theorem product_kv (a : FVec Ideal S4096x8192 .bf16) (b : FVec Ideal S2112x8192 .bf16) (r : Fin 4096) (j : Fin 576) :
    matmul dot_S4096x8192_S576x8192_S4096x576_1_1_0_0_n_n none a (extractStridedSlice S576x8192 ![1536, 0] b slices_S2112x8192_o1536_0_S576x8192)
      (constant S4096x576 .f32 0x00000000#32) (Idealize.ShloMosaic.ix2 r j)
      = ∑ c : Fin 8192, a (Idealize.ShloMosaic.ix2 r c) * b (Idealize.ShloMosaic.ix2 (⟨1536 + j.val, by omega⟩ : Fin 2112) c) := by
  pointwise

theorem q_apply (x : Vec Ideal S2x2048x8192 .bf16) (ws : Vec Ideal S17x64 .f32) (w : Vec Ideal S2112x8192 .fp8e4m3) (g : Vec Ideal S1536 .bf16) (r : Fin 4096) (j : Fin 1536) :
    k0_pay11 (k0_pay7 x) (k0_pay8 ws) w g (Idealize.ShloMosaic.ix2 r j) = qAt x w ws g r j := by
  have hp : ∀ k : Fin 1536, matmul dot_S4096x8192_S1536x8192_S4096x1536_1_1_0_0_n_n none (k0_pay7 x) (extractStridedSlice S1536x8192 ![0, 0] (k0_pay9 (k0_pay8 ws) w) slices_S2112x8192_o0_0_S1536x8192)
      (constant S4096x1536 .f32 0x00000000#32) (Idealize.ShloMosaic.ix2 r k) = projAt x w ws r (⟨k.val, by omega⟩ : Fin 2112) := by
    intro k
    rw [product_q]
    simp only [pay7_apply, pay9_apply]
    rfl
  unfold k0_pay11
  dsimp only
  generalize matmul dot_S4096x8192_S1536x8192_S4096x1536_1_1_0_0_n_n none (k0_pay7 x) (extractStridedSlice S1536x8192 ![0, 0] (k0_pay9 (k0_pay8 ws) w) slices_S2112x8192_o0_0_S1536x8192)
      (constant S4096x1536 .f32 0x00000000#32) = v at hp ⊢
  pointwise
  simp only [hp]
  rfl

theorem tail_apply (x : Vec Ideal S2x2048x8192 .bf16) (ws : Vec Ideal S17x64 .f32) (w : Vec Ideal S2112x8192 .fp8e4m3) (r : Fin 4096) (j : Fin 576) :
    k0_pay10 (k0_pay7 x) (k0_pay8 ws) w (Idealize.ShloMosaic.ix2 r j) = projAt x w ws r (⟨1536 + j.val, by omega⟩ : Fin 2112) := by
  unfold k0_pay10
  rw [product_kv]
  simp only [pay7_apply, pay9_apply]
  rfl

theorem kv_apply (x : Vec Ideal S2x2048x8192 .bf16) (ws : Vec Ideal S17x64 .f32) (w : Vec Ideal S2112x8192 .fp8e4m3) (g : Vec Ideal S512 .bf16) (r : Fin 4096) (j : Fin 512) :
    k0_pay1 (k0_pay12 (k0_pay7 x) (k0_pay8 ws) w) (k0_pay13 g) (Idealize.ShloMosaic.ix2 r j) = kvAt x w ws g r j := by
  have hp := tail_apply x ws w r
  unfold k0_pay1 k0_pay12 k0_pay13
  dsimp only
  generalize k0_pay10 (k0_pay7 x) (k0_pay8 ws) w = v at hp ⊢
  pointwise
  simp only [hp]
  rfl

theorem pe_apply (x : Vec Ideal S2x2048x8192 .bf16) (ws : Vec Ideal S17x64 .f32) (w : Vec Ideal S2112x8192 .fp8e4m3) (r : Fin 4096) (j : Fin 64) :
    k0_pay2 (k0_pay10 (k0_pay7 x) (k0_pay8 ws) w) (Idealize.ShloMosaic.ix2 r j) = peAt x w ws r j := by
  have hp := tail_apply x ws w r
  unfold k0_pay2
  generalize k0_pay10 (k0_pay7 x) (k0_pay8 ws) w = v at hp ⊢
  pointwise
  rw [hp]
  unfold peAt
  exact congrArg (projAt x w ws r) (Fin.ext (by simp only; omega))

end Cert.ReferenceIdeal.Hand
end
-- ==== Proof.RefFinal.lean ====
/- The reference's run, its five results at an index. -/
module

public import proofs.«01_k».proof.Proof.RefResult

@[expose] public section

set_option maxRecDepth 16384

noncomputable section

namespace Cert.ReferenceIdeal.Hand

open Cert.ReferenceIdeal.Gen
open Idealize.ShloMosaic Idealize.ShloMosaic.TcCoe Cert.Rows Cert.Scale Cert.Spec
open Idealize.SL.Sem

variable (a0 : Vec Ideal S2x2048x8192 .bf16) (a1 : Vec Ideal S2112x8192 .fp8e4m3) (a2 : Vec Ideal S17x64 .f32) (a3 : Vec Ideal S1536 .bf16) (a4 : Vec Ideal S512 .bf16)

/-- The whole of an array, loaded, is the array. -/
theorem pay14_eq : k0_pay14 a0 a1 a2 a3 a4 = k0_pay7 a0 :=
  congrArg k0_pay7 (View.ld_unit_zero (funext fun a => by fin_cases a <;> rfl) _ a0)

@[inherit_doc pay14_eq] theorem pay15_eq : k0_pay15 a0 a1 a2 a3 a4 = k0_pay8 a2 :=
  congrArg k0_pay8 (View.ld_unit_zero (funext fun a => by fin_cases a <;> rfl) _ a2)

theorem q_eq : Value.G5 a0 a1 a2 a3 a4 = fun i : S4096x1536.Idx => qAt a0 a1 a2 a3 (i 0) (i 1) := by
  unfold Value.G5
  rw [pay14_eq, pay15_eq]
  funext i
  exact (congrArg _ (eq_ix2 i)).trans (q_apply a0 a2 a1 a3 (i 0) (i 1))

theorem kv_eq : Value.G6 a0 a1 a2 a3 a4 = fun i : S4096x512.Idx => kvAt a0 a1 a2 a4 (i 0) (i 1) := by
  unfold Value.G6
  rw [pay14_eq, pay15_eq]
  funext i
  exact (congrArg _ (eq_ix2 i)).trans (kv_apply a0 a2 a1 a4 (i 0) (i 1))

theorem pe_eq : Value.G7 a0 a1 a2 a3 a4 = fun i : S4096x64.Idx => peAt a0 a1 a2 (i 0) (i 1) := by
  unfold Value.G7
  rw [pay14_eq, pay15_eq]
  funext i
  exact (congrArg _ (eq_ix2 i)).trans (pe_apply a0 a2 a1 (i 0) (i 1))

theorem codes_eq : Value.G8 a0 a1 a2 a3 a4 = fun i : S4096x8192.Idx => codeAt a0 (i 0) (i 1) := by
  funext i
  exact (congrArg _ (eq_ix2 i)).trans (pay3_apply a0 (i 0) (i 1))

theorem scales_eq : Value.G9 a0 a1 a2 a3 a4 = fun i : S4096x64.Idx => scaleAt a0 (i 0) (i 1) := by
  funext i
  exact (congrArg _ (eq_ix2 i)).trans (pay5_apply a0 (i 0) (i 1))

variable (m : (ℓ : Loc nD τ sig) → Buf (Elt Ideal) ℓ) (ρ : Dev nD → PrngReg)

/-- Every run ends with the five results at their values of the arguments, and the arguments unchanged. -/
theorem run : θ_run defs (onTc (τ := τ) (main (F := Ideal))) ⟨m, fun _ => 0, ρ⟩ fun r => ∀ c : Dev nD,
      r.2.mem ((c : Thread nD τ).loc main_v0_0) = (fun i : S4096x1536.Idx => qAt (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v0_1) = (fun i : S4096x512.Idx => kvAt (m ((c : Thread nD τ).loc main_arg0)) (m ((c : Thread nD τ).loc main_arg1)) (m ((c : Thread nD τ).loc main_arg2)) (m ((c : Thread nD τ).loc main_arg4)) (i 0) (i 1))
      ∧ r.2.mem ((c : Thread nD τ).loc main_v0_2) = (fun i : S4096x64.Idx => peAt (m ((c : Thread nD τ).loc main_arg0)) (m ((c : Thread nD τ).loc main_arg1)) (m ((c : Thread nD τ).loc main_arg2)) (i 0) (i 1))
      ∧ r.2.mem ((c : Thread nD τ).loc main_v0_3) = (fun i : S4096x8192.Idx => codeAt (m ((c : Thread nD τ).loc main_arg0)) (i 0) (i 1))
      ∧ r.2.mem ((c : Thread nD τ).loc main_v0_4) = (fun i : S4096x64.Idx => scaleAt (m ((c : Thread nD τ).loc main_arg0)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (q_eq ..), (h c).2.1.trans (kv_eq ..), (h c).2.2.1.trans (pe_eq ..),
      (h c).2.2.2.1.trans (codes_eq ..), (h c).2.2.2.2.1.trans (scales_eq ..), (h c).2.2.2.2.2⟩)
    (Value.run m ρ)

end Cert.ReferenceIdeal.Hand
end
-- ==== Proof.Precondition.lean ====
/- The precondition, read: every activation is at most the largest finite one in magnitude. -/
module

public import proofs.«01_k».proof.Proof.Gen.Pre_x_is_finite
public import proofs.«01_k».proof.Proof.Spec
public import Idealize.ShloMosaic.Lib.ReduceAll

@[expose] public section

noncomputable section

namespace Cert.Spec

open Idealize.ShloMosaic Cert.Rows Cert.Scale

theorem le_of_cmp (a b : EReal) (h : FloatOps.cmpf (F := Ideal) (φ := .bf16) .ole a b = 1#1) : a ≤ b := by
  by_contra hn
  simp [FloatOps.cmpf, Ideal.cmp, hn] at h

instance : Subsingleton Cert.Pre_x_is_finite.S_.Idx := ⟨fun _ _ => funext fun a => a.elim0⟩

theorem finite_of_pre (x : FVec Ideal Cert.Pre_x_is_finite.S2x2048x8192 .bf16) (a1 : FVec Ideal Cert.Pre_x_is_finite.S2112x8192 .fp8e4m3) (a2 : FVec Ideal Cert.Pre_x_is_finite.S17x64 .f32)
    (a3 : FVec Ideal Cert.Pre_x_is_finite.S1536 .bf16) (a4 : FVec Ideal Cert.Pre_x_is_finite.S512 .bf16)
    (h : Cert.Pre_x_is_finite.fn (F := Ideal) x a1 a2 a3 a4 = fun _ => 1#1) : Finite x := by
  intro r c
  have e := Host.reduce_andi_all _ _ _ _ (fun a => a.elim0) (congrFun h fun a => a.elim0) (Idealize.ShloMosaic.ix3 (⟨r.val / 2048, by omega⟩ : Fin 2) (⟨r.val % 2048, by omega⟩ : Fin 2048) c)
  exact le_of_cmp _ _ e

end Cert.Spec
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_x_is_finite
public import proofs.«01_k».proof.Proof.Gen.ReferenceIdeal.Value
public import proofs.«01_k».proof.Proof.KerFrame
public import proofs.«01_k».proof.Proof.KerFinal
public import proofs.«01_k».proof.Proof.RefFinal
public import proofs.«01_k».proof.Proof.Precondition
public import Idealize.ShloMosaic.Adequacy
public import Idealize.ShloMosaic.Init

@[expose] public section

noncomputable section

namespace Cert.Proof

open Idealize.ShloMosaic Idealize.SL.Sem Cert.Spec

/-- Both programs' five results are the same functions of the arguments. -/
theorem results_agree : Cert.algebraic_KernelIdeal_ReferenceIdeal_pre_x_is_finite (hKernelIdeal := Cert.KernelIdeal.Gen.facts)
    (hReferenceIdeal := Cert.ReferenceIdeal.Gen.facts) (hPre_x_is_finite := Cert.Pre_x_is_finite.Gen.facts) := by
  intro m g m' g' hpre harg
  refine ⟨fun c (i : Cert.KernelIdeal.S4096x1536.Idx) => qAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1),
    fun c (i : Cert.KernelIdeal.S4096x512.Idx) => kvAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (i 0) (i 1),
    fun c (i : Cert.KernelIdeal.S4096x64.Idx) => peAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (i 0) (i 1),
    fun c (i : Cert.KernelIdeal.S4096x8192.Idx) => codeAt (m ((c.tc : Thread Cert.KernelIdeal.nD Cert.KernelIdeal.τ).loc Cert.KernelIdeal.main_arg0)) (i 0) (i 1),
    fun c (i : Cert.KernelIdeal.S4096x64.Idx) => scaleAt (m ((c.tc : Thread Cert.KernelIdeal.nD Cert.KernelIdeal.τ).loc Cert.KernelIdeal.main_arg0)) (i 0) (i 1),
    Cert.KernelIdeal.Hand.run m g fun c => finite_of_pre _ _ _ _ _ (hpre c), ?_⟩
  refine (θ_run _ _ _).mono (fun r h c => ?_) (Cert.ReferenceIdeal.Hand.run m' g')
  obtain ⟨e0, e1, e2, e3, e4⟩ := harg c
  obtain ⟨h0, h1, h2, h3, h4, hk⟩ := h c
  refine ⟨h0.trans ?_, h1.trans ?_, h2.trans ?_, h3.trans ?_, h4.trans ?_, hk⟩
  · rw [e0, e1, e2, e3]
  · rw [e0, e1, e2, e4]
  · rw [e0, e1, e2]
  · rw [e0]
  · rw [e0]

theorem claim : Cert.Claim := ⟨Cert.Kernel.Gen.facts, Cert.KernelIdeal.Gen.facts, Cert.ReferenceIdeal.Gen.facts, Cert.Pre_x_is_finite.Gen.facts,
  kernel_frame,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  results_agree⟩

end Cert.Proof

end
